-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Oproj_OprojIdeal : Prop :=
  IdealRules.named_const.Statement Cert.OprojIdeal.κ "inv_d" .f32 0x39924925#32 ((1 / 3584 : ℝ) : EReal)

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)) (v2 : (c : Dev Cert.OprojIdeal.nD) → Buf (Elt Ideal) ((c.tc : Thread Cert.OprojIdeal.nD Cert.OprojIdeal.τ).loc Cert.OprojIdeal.main_v0_2)) (v3 : (c : Dev Cert.OprojIdeal.nD) → Buf (Elt Ideal) ((c.tc : Thread Cert.OprojIdeal.nD Cert.OprojIdeal.τ).loc Cert.OprojIdeal.main_v0_3)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_v0_2) = v2 c
          ∧ r.2.mem ((c.tc : Thread Cert.OprojIdeal.nD Cert.OprojIdeal.τ).loc Cert.OprojIdeal.main_v0_3) = v3 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_v0_2) = v2 c
          ∧ r.2.mem ((c.tc : Thread Cert.OprojRefIdeal.nD Cert.OprojRefIdeal.τ).loc Cert.OprojRefIdeal.main_v0_3) = v3 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v1_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_1) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def Claim : Prop :=
  ∃ (hDown : Cert.Down.Facts) (hDownIdeal : Cert.DownIdeal.Facts) (hDownRefIdeal : Cert.DownRefIdeal.Facts) (hOproj : Cert.Oproj.Facts) (hOprojIdeal : Cert.OprojIdeal.Facts) (hOprojRefIdeal : Cert.OprojRefIdeal.Facts) (hGateUp : Cert.GateUp.Facts) (hGateUpIdeal : Cert.GateUpIdeal.Facts) (hGateUpRefIdeal : Cert.GateUpRefIdeal.Facts),
    quiescent_Down (hDown := hDown)
    ∧ quiescent_DownIdeal (hDownIdeal := hDownIdeal)
    ∧ quiescent_DownRefIdeal (hDownRefIdeal := hDownRefIdeal)
    ∧ quiescent_Oproj (hOproj := hOproj)
    ∧ quiescent_OprojIdeal (hOprojIdeal := hOprojIdeal)
    ∧ quiescent_OprojRefIdeal (hOprojRefIdeal := hOprojRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ preserves_Down_DownIdeal
    ∧ algebraic_DownIdeal_DownRefIdeal (hDownIdeal := hDownIdeal) (hDownRefIdeal := hDownRefIdeal)
    ∧ preserves_Oproj_OprojIdeal
    ∧ algebraic_OprojIdeal_OprojRefIdeal (hOprojIdeal := hOprojIdeal) (hOprojRefIdeal := hOprojRefIdeal)
    ∧ preserves_GateUp_GateUpIdeal
    ∧ algebraic_GateUpIdeal_GateUpRefIdeal (hGateUpIdeal := hGateUpIdeal) (hGateUpRefIdeal := hGateUpRefIdeal)
-- ==== Down.lean ====
abbrev S16384x9472 : Shape := ⟨2, ![16384, 9472]⟩
abbrev S16384x128 : Shape := ⟨2, ![16384, 128]⟩
abbrev S9472x3584 : Shape := ⟨2, ![9472, 3584]⟩
abbrev S1x3584 : Shape := ⟨2, ![1, 3584]⟩
abbrev S16384x3584 : Shape := ⟨2, ![16384, 3584]⟩
abbrev S512x9472 : Shape := ⟨2, ![512, 9472]⟩
abbrev S512x128 : Shape := ⟨2, ![512, 128]⟩
abbrev S9472x1792 : Shape := ⟨2, ![9472, 1792]⟩
abbrev S1x1792 : Shape := ⟨2, ![1, 1792]⟩
abbrev S512x1792 : Shape := ⟨2, ![512, 1792]⟩
abbrev S9472x256 : Shape := ⟨2, ![9472, 256]⟩
abbrev S512x256 : Shape := ⟨2, ![512, 256]⟩
abbrev S512x1 : Shape := ⟨2, ![512, 1]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S16384x9472, .fp8e4m3⟩
  | .hbm, ⟨1, _⟩ => ⟨S16384x128, .f32⟩
  | .hbm, ⟨2, _⟩ => ⟨S9472x3584, .fp8e4m3⟩
  | .hbm, ⟨3, _⟩ => ⟨S1x3584, .f32⟩
  | .hbm, ⟨4, _⟩ => ⟨S16384x3584, .f32⟩
  | .hbm, ⟨5, _⟩ => ⟨S16384x3584, .bf16⟩
  | .local _ .vmem, ⟨0, _⟩ => ⟨S512x9472, .fp8e4m3⟩
  | .local _ .vmem, ⟨1, _⟩ => ⟨S512x9472, .fp8e4m3⟩
  | .local _ .vmem, ⟨2, _⟩ => ⟨S512x128, .f32⟩
  | .local _ .vmem, ⟨3, _⟩ => ⟨S512x128, .f32⟩
  | .local _ .vmem, ⟨4, _⟩ => ⟨S9472x1792, .fp8e4m3⟩
  | .local _ .vmem, ⟨5, _⟩ => ⟨S9472x1792, .fp8e4m3⟩
  | .local _ .vmem, ⟨6, _⟩ => ⟨S1x1792, .f32⟩
  | .local _ .vmem, ⟨7, _⟩ => ⟨S1x1792, .f32⟩
  | .local _ .vmem, ⟨8, _⟩ => ⟨S512x1792, .f32⟩
  | .local _ .vmem, ⟨9, _⟩ => ⟨S512x1792, .f32⟩
  | .local _ .vmem, ⟨10, _⟩ => ⟨S512x1792, .bf16⟩
  | .local _ .vmem, ⟨11, _⟩ => ⟨S512x1792, .bf16⟩
  | _, _ => ⟨S16384x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x9472 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S9472x1792 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S16384x9472 : Shape := ⟨2, ![16384, 9472]⟩
abbrev S16384x128 : Shape := ⟨2, ![16384, 128]⟩
abbrev S9472x3584 : Shape := ⟨2, ![9472, 3584]⟩
abbrev S1x3584 : Shape := ⟨2, ![1, 3584]⟩
abbrev S16384x3584 : Shape := ⟨2, ![16384, 3584]⟩
abbrev S16384x1 : Shape := ⟨2, ![16384, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x9472, .fp8e4m3⟩
  | .hbm, ⟨1, _⟩ => ⟨S16384x128, .f32⟩
  | .hbm, ⟨2, _⟩ => ⟨S9472x3584, .fp8e4m3⟩
  | .hbm, ⟨3, _⟩ => ⟨S1x3584, .f32⟩
  | .hbm, ⟨4, _⟩ => ⟨S16384x3584, .f32⟩
  | .hbm, ⟨5, _⟩ => ⟨S16384x3584, .bf16⟩
  | .local _ .vmem, ⟨0, _⟩ => ⟨S16384x9472, .fp8e4m3⟩
  | .local _ .vmem, ⟨1, _⟩ => ⟨S16384x128, .f32⟩
  | .local _ .vmem, ⟨2, _⟩ => ⟨S9472x3584, .fp8e4m3⟩
  | .local _ .vmem, ⟨3, _⟩ => ⟨S1x3584, .f32⟩
  | .local _ .vmem, ⟨4, _⟩ => ⟨S16384x3584, .f32⟩
  | .local _ .vmem, ⟨5, _⟩ => ⟨S16384x3584, .bf16⟩
  | _, _ => ⟨S16384x9472, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x9472 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9472x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Oproj.lean ====
abbrev S16384x1792 : Shape := ⟨2, ![16384, 1792]⟩
abbrev S16384x128 : Shape := ⟨2, ![16384, 128]⟩
abbrev S16384x3584 : Shape := ⟨2, ![16384, 3584]⟩
abbrev S1792x3584 : Shape := ⟨2, ![1792, 3584]⟩
abbrev S1x3584 : Shape := ⟨2, ![1, 3584]⟩
abbrev S4x4096 : Shape := ⟨2, ![4, 4096]⟩
abbrev S512x1792 : Shape := ⟨2, ![512, 1792]⟩
abbrev S512x128 : Shape := ⟨2, ![512, 128]⟩
abbrev S512x3584 : Shape := ⟨2, ![512, 3584]⟩
abbrev S1792x512 : Shape := ⟨2, ![1792, 512]⟩
abbrev S512x512 : Shape := ⟨2, ![512, 512]⟩
abbrev S512x1 : Shape := ⟨2, ![512, 1]⟩
abbrev S1x512 : Shape := ⟨2, ![1, 512]⟩
abbrev S32x3584 : Shape := ⟨2, ![32, 3584]⟩
abbrev S32 : Shape := ⟨1, ![32]⟩
abbrev S32x1 : Shape := ⟨2, ![32, 1]⟩
abbrev S32x128 : Shape := ⟨2, ![32, 128]⟩
abbrev S128x512 : Shape := ⟨2, ![128, 512]⟩

abbrev nBuf : Space → Nat
  | .hbm => 10
  | .vmem => 16
  | .smem => 0
  | _ => 0

abbrev bufTy : (tb : Table) → Fin (tcTables nBuf tb) → BufTy
  | .hbm, ⟨0, _⟩ => ⟨S16384x1792, .fp8e4m3⟩
  | .hbm, ⟨1, _⟩ => ⟨S16384x128, .f32⟩
  | .hbm, ⟨2, _⟩ => ⟨S16384x3584, .bf16⟩
  | .hbm, ⟨3, _⟩ => ⟨S1792x3584, .fp8e4m3⟩
  | .hbm, ⟨4, _⟩ => ⟨S1x3584, .f32⟩
  | .hbm, ⟨5, _⟩ => ⟨S1x3584, .f32⟩
  | .hbm, ⟨6, _⟩ => ⟨S16384x3584, .f32⟩
  | .hbm, ⟨7, _⟩ => ⟨S16384x3584, .fp8e4m3⟩
  | .hbm, ⟨8, _⟩ => ⟨S4x4096, .f32⟩
  | .hbm, ⟨9, _⟩ => ⟨S16384x128, .f32⟩
  | .local _ .vmem, ⟨0, _⟩ => ⟨S512x1792, .fp8e4m3⟩
  | .local _ .vmem, ⟨1, _⟩ => ⟨S512x1792, .fp8e4m3⟩
  | .local _ .vmem, ⟨2, _⟩ => ⟨S512x128, .f32⟩
  | .local _ .vmem, ⟨3, _⟩ => ⟨S512x128, .f32⟩
  | .local _ .vmem, ⟨4, _⟩ => ⟨S512x3584, .bf16⟩
  | .local _ .vmem, ⟨5, _⟩ => ⟨S512x3584, .bf16⟩
  | .local _ .vmem, ⟨6, _⟩ => ⟨S1792x3584, .fp8e4m3⟩
  | .local _ .vmem, ⟨7, _⟩ => ⟨S1x3584, .f32⟩
  | .local _ .vmem, ⟨8, _⟩ => ⟨S1x3584, .f32⟩
  | .local _ .vmem, ⟨9, _⟩ => ⟨S512x3584, .f32⟩
  | .local _ .vmem, ⟨10, _⟩ => ⟨S512x3584, .f32⟩
  | .local _ .vmem, ⟨11, _⟩ => ⟨S512x3584, .fp8e4m3⟩
  | .local _ .vmem, ⟨12, _⟩ => ⟨S512x3584, .fp8e4m3⟩
  | .local _ .vmem, ⟨13, _⟩ => ⟨S4x4096, .f32⟩
  | .local _ .vmem, ⟨14, _⟩ => ⟨S512x128, .f32⟩
  | .local _ .vmem, ⟨15, _⟩ => ⟨S512x128, .f32⟩
  | _, _ => ⟨S16384x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c8_i32 : BitVec 32 := 8#32
  let c0_i32 : BitVec 32 := 0#32
  let v668 : BitVec 1 := Scalar.cmpi .eq c8_i32 c0_i32
  let c1_i32 : BitVec 32 := 1#32
  let v669 : BitVec 32 := Scalar.select v668 c1_i32 c8_i32
  let v670 : BitVec 32 := Scalar.remsi arg0 v669
  let c0_i32_327 : BitVec 32 := 0#32
  let v672 : BitVec 1 := Scalar.cmpi .slt v670 c0_i32_327
  let c0_i32_328 : BitVec 32 := 0#32
  let v673 : BitVec 1 := Scalar.cmpi .slt v669 c0_i32_328
  let v674 : BitVec 1 := Scalar.xori v672 v673
  let c0_i32_326 : BitVec 32 := 0#32
  let v671 : BitVec 1 := Scalar.cmpi .ne v670 c0_i32_326
  let v675 : BitVec 1 := Scalar.andi v674 v671
  let v676 : BitVec 32 := Scalar.addi v670 v669
  let v677 : BitVec 32 := Scalar.select v675 v676 v670
  let c512_i32 : BitVec 32 := 512#32
  let v678 : BitVec 32 := Scalar.muli v677 c512_i32
  v678
def k0_cond1 (i : grid0.Coords) : BitVec 1 :=
  let arg0 : BitVec 32 := BitVec.ofNat 32 (i 0).val
  let c0_i32_330 : BitVec 32 := 0#32
  let v681 : BitVec 1 := Scalar.cmpi .sgt arg0 c0_i32_330
  let v682 : BitVec 32 := Scalar.extui v681
  let c0_i32_331 : BitVec 32 := 0#32
  let v683 : BitVec 1 := Scalar.cmpi .slt arg0 c0_i32_331
  let v684 : BitVec 32 := Scalar.extui v683
  let v685 : BitVec 32 := Scalar.subi v682 v684
  let c8_i32_329 : BitVec 32 := 8#32
  let c0_i32_332 : BitVec 32 := 0#32
  let v686 : BitVec 1 := Scalar.cmpi .sgt c8_i32_329 c0_i32_332
  let v687 : BitVec 32 := Scalar.extui v686
  let c0_i32_333 : BitVec 32 := 0#32
  let v688 : BitVec 1 := Scalar.cmpi .slt c8_i32_329 c0_i32_333
  let v689 : BitVec 32 := Scalar.extui v688
  let v690 : BitVec 32 := Scalar.subi v687 v689
  let v691 : BitVec 1 := Scalar.cmpi .ne v685 v690
  let v692 : BitVec 32 := Scalar.remsi arg0 c8_i32_329
  let c0_i32_334 : BitVec 32 := 0#32
  let v693 : BitVec 1 := Scalar.cmpi .ne v692 c0_i32_334
  let v694 : BitVec 1 := Scalar.andi v691 v693
  let v680 : BitVec 32 := Scalar.divsi arg0 c8_i32_329
  let c1_i32_335 : BitVec 32 := 1#32
  let v695 : BitVec 32 := Scalar.subi v680 c1_i32_335
  let v696 : BitVec 32 := Scalar.select v694 v695 v680
  let c0_i32_338 : BitVec 32 := 0#32
  let v703 : BitVec 1 := Scalar.cmpi .eq v696 c0_i32_338
  let v704 : BitVec 32 := Scalar.extui v703
  let c0_i32_339 : BitVec 32 := 0#32
  let v705 : BitVec 1 := Scalar.cmpi .ne v704 c0_i32_339
  v705

def k0_off1 (i : grid0.Coords) : Fin 2 → Nat :=
  let c0_344 : Index := 0#32
  let arg0 : BitVec 32 := BitVec.ofNat 32 (i 0).val
  let c8_i32 : BitVec 32 := 8#32
  let c0_i32 : BitVec 32 := 0#32
  let v668 : BitVec 1 := Scalar.cmpi .eq c8_i32 c0_i32
  let c1_i32 : BitVec 32 := 1#32
  let v669 : BitVec 32 := Scalar.select v668 c1_i32 c8_i32
  let v670 : BitVec 32 := Scalar.remsi arg0 v669
  let c0_i32_327 : BitVec 32 := 0#32
  let v672 : BitVec 1 := Scalar.cmpi .slt v670 c0_i32_327
  let c0_i32_328 : BitVec 32 := 0#32
  let v673 : BitVec 1 := Scalar.cmpi .slt v669 c0_i32_328
  let v674 : BitVec 1 := Scalar.xori v672 v673
  let c0_i32_326 : BitVec 32 := 0#32
  let v671 : BitVec 1 := Scalar.cmpi .ne v670 c0_i32_326
  let v675 : BitVec 1 := Scalar.andi v674 v671
  let v676 : BitVec 32 := Scalar.addi v670 v669
  let v677 : BitVec 32 := Scalar.select v675 v676 v670
  let c512_i32 : BitVec 32 := 512#32
  let v678 : BitVec 32 := Scalar.muli v677 c512_i32
  let v679 : BitVec 32 := v678
  let v715 : Index := Scalar.indexCast v679
  ![0, v715.toNat]
def k0_cond2 (i : grid0.Coords) : BitVec 1 :=
  let arg0 : BitVec 32 := BitVec.ofNat 32 (i 0).val
  let c0_i32_330 : BitVec 32 := 0#32
  let v681 : BitVec 1 := Scalar.cmpi .sgt arg0 c0_i32_330
  let v682 : BitVec 32 := Scalar.extui v681
  let c0_i32_331 : BitVec 32 := 0#32
  let v683 : BitVec 1 := Scalar.cmpi .slt arg0 c0_i32_331
  let v684 : BitVec 32 := Scalar.extui v683
  let v685 : BitVec 32 := Scalar.subi v682 v684
  let c8_i32_329 : BitVec 32 := 8#32
  let c0_i32_332 : BitVec 32 := 0#32
  let v686 : BitVec 1 := Scalar.cmpi .sgt c8_i32_329 c0_i32_332
  let v687 : BitVec 32 := Scalar.extui v686
  let c0_i32_333 : BitVec 32 := 0#32
  let v688 : BitVec 1 := Scalar.cmpi .slt c8_i32_329 c0_i32_333
  let v689 : BitVec 32 := Scalar.extui v688
  let v690 : BitVec 32 := Scalar.subi v687 v689
  let v691 : BitVec 1 := Scalar.cmpi .ne v685 v690
  let v692 : BitVec 32 := Scalar.remsi arg0 c8_i32_329
  let c0_i32_334 : BitVec 32 := 0#32
  let v693 : BitVec 1 := Scalar.cmpi .ne v692 c0_i32_334
  let v694 : BitVec 1 := Scalar.andi v691 v693
  let v680 : BitVec 32 := Scalar.divsi arg0 c8_i32_329
  let c1_i32_335 : BitVec 32 := 1#32
  let v695 : BitVec 32 := Scalar.subi v680 c1_i32_335
  let v696 : BitVec 32 := Scalar.select v694 v695 v680
  let c1_i32_340 : BitVec 32 := 1#32
  let v706 : BitVec 1 := Scalar.cmpi .eq v696 c1_i32_340
  let v707 : BitVec 32 := Scalar.extui v706
  let c0_i32_341 : BitVec 32 := 0#32
  let v708 : BitVec 1 := Scalar.cmpi .ne v707 c0_i32_341
  v708

def k0_off2 (i : grid0.Coords) : Fin 2 → Nat :=
  let c1 : Index := 1#32
  let arg0 : BitVec 32 := BitVec.ofNat 32 (i 0).val
  let c8_i32 : BitVec 32 := 8#32
  let c0_i32 : BitVec 32 := 0#32
  let v668 : BitVec 1 := Scalar.cmpi .eq c8_i32 c0_i32
  let c1_i32 : BitVec 32 := 1#32
  let v669 : BitVec 32 := Scalar.select v668 c1_i32 c8_i32
  let v670 : BitVec 32 := Scalar.remsi arg0 v669
  let c0_i32_327 : BitVec 32 := 0#32
  let v672 : BitVec 1 := Scalar.cmpi .slt v670 c0_i32_327
  let c0_i32_328 : BitVec 32 := 0#32
  let v673 : BitVec 1 := Scalar.cmpi .slt v669 c0_i32_328
  let v674 : BitVec 1 := Scalar.xori v672 v673
  let c0_i32_326 : BitVec 32 := 0#32
  let v671 : BitVec 1 := Scalar.cmpi .ne v670 c0_i32_326
  let v675 : BitVec 1 := Scalar.andi v674 v671
  let v676 : BitVec 32 := Scalar.addi v670 v669
  let v677 : BitVec 32 := Scalar.select v675 v676 v670
  let c512_i32 : BitVec 32 := 512#32
  let v678 : BitVec 32 := Scalar.muli v677 c512_i32
  let v679 : BitVec 32 := v678
  let v715 : Index := Scalar.indexCast v679
  ![1, v715.toNat]
def k0_cond3 (i : grid0.Coords) : BitVec 1 :=
  let arg0 : BitVec 32 := BitVec.ofNat 32 (i 0).val
  let c0_i32_330 : BitVec 32 := 0#32
  let v681 : BitVec 1 := Scalar.cmpi .sgt arg0 c0_i32_330
  let v682 : BitVec 32 := Scalar.extui v681
  let c0_i32_331 : BitVec 32 := 0#32
  let v683 : BitVec 1 := Scalar.cmpi .slt arg0 c0_i32_331
  let v684 : BitVec 32 := Scalar.extui v683
  let v685 : BitVec 32 := Scalar.subi v682 v684
  let c8_i32_329 : BitVec 32 := 8#32
  let c0_i32_332 : BitVec 32 := 0#32
  let v686 : BitVec 1 := Scalar.cmpi .sgt c8_i32_329 c0_i32_332
  let v687 : BitVec 32 := Scalar.extui v686
  let c0_i32_333 : BitVec 32 := 0#32
  let v688 : BitVec 1 := Scalar.cmpi .slt c8_i32_329 c0_i32_333
  let v689 : BitVec 32 := Scalar.extui v688
  let v690 : BitVec 32 := Scalar.subi v687 v689
  let v691 : BitVec 1 := Scalar.cmpi .ne v685 v690
  let v692 : BitVec 32 := Scalar.remsi arg0 c8_i32_329
  let c0_i32_334 : BitVec 32 := 0#32
  let v693 : BitVec 1 := Scalar.cmpi .ne v692 c0_i32_334
  let v694 : BitVec 1 := Scalar.andi v691 v693
  let v680 : BitVec 32 := Scalar.divsi arg0 c8_i32_329
  let c1_i32_335 : BitVec 32 := 1#32
  let v695 : BitVec 32 := Scalar.subi v680 c1_i32_335
  let v696 : BitVec 32 := Scalar.select v694 v695 v680
  let c2_i32 : BitVec 32 := 2#32
  let v709 : BitVec 1 := Scalar.cmpi .eq v696 c2_i32
  let v710 : BitVec 32 := Scalar.extui v709
  let c0_i32_342 : BitVec 32 := 0#32
  let v711 : BitVec 1 := Scalar.cmpi .ne v710 c0_i32_342
  v711

def k0_off3 (i : grid0.Coords) : Fin 2 → Nat :=
  let c2 : Index := 2#32
  let arg0 : BitVec 32 := BitVec.ofNat 32 (i 0).val
  let c8_i32 : BitVec 32 := 8#32
  let c0_i32 : BitVec 32 := 0#32
  let v668 : BitVec 1 := Scalar.cmpi .eq c8_i32 c0_i32
  let c1_i32 : BitVec 32 := 1#32
  let v669 : BitVec 32 := Scalar.select v668 c1_i32 c8_i32
  let v670 : BitVec 32 := Scalar.remsi arg0 v669
  let c0_i32_327 : BitVec 32 := 0#32
  let v672 : BitVec 1 := Scalar.cmpi .slt v670 c0_i32_327
  let c0_i32_328 : BitVec 32 := 0#32
  let v673 : BitVec 1 := Scalar.cmpi .slt v669 c0_i32_328
  let v674 : BitVec 1 := Scalar.xori v672 v673
  let c0_i32_326 : BitVec 32 := 0#32
  let v671 : BitVec 1 := Scalar.cmpi .ne v670 c0_i32_326
  let v675 : BitVec 1 := Scalar.andi v674 v671
  let v676 : BitVec 32 := Scalar.addi v670 v669
  let v677 : BitVec 32 := Scalar.select v675 v676 v670
  let c512_i32 : BitVec 32 := 512#32
  let v678 : BitVec 32 := Scalar.muli v677 c512_i32
  let v679 : BitVec 32 := v678
  let v715 : Index := Scalar.indexCast v679
  ![2, v715.toNat]
def k0_cond4 (i : grid0.Coords) : BitVec 1 :=
  let arg0 : BitVec 32 := BitVec.ofNat 32 (i 0).val
  let c0_i32_330 : BitVec 32 := 0#32
  let v681 : BitVec 1 := Scalar.cmpi .sgt arg0 c0_i32_330
  let v682 : BitVec 32 := Scalar.extui v681
  let c0_i32_331 : BitVec 32 := 0#32
  let v683 : BitVec 1 := Scalar.cmpi .slt arg0 c0_i32_331
  let v684 : BitVec 32 := Scalar.extui v683
  let v685 : BitVec 32 := Scalar.subi v682 v684
  let c8_i32_329 : BitVec 32 := 8#32
  let c0_i32_332 : BitVec 32 := 0#32
  let v686 : BitVec 1 := Scalar.cmpi .sgt c8_i32_329 c0_i32_332
  let v687 : BitVec 32 := Scalar.extui v686
  let c0_i32_333 : BitVec 32 := 0#32
  let v688 : BitVec 1 := Scalar.cmpi .slt c8_i32_329 c0_i32_333
  let v689 : BitVec 32 := Scalar.extui v688
  let v690 : BitVec 32 := Scalar.subi v687 v689
  let v691 : BitVec 1 := Scalar.cmpi .ne v685 v690
  let v692 : BitVec 32 := Scalar.remsi arg0 c8_i32_329
  let c0_i32_334 : BitVec 32 := 0#32
  let v693 : BitVec 1 := Scalar.cmpi .ne v692 c0_i32_334
  let v694 : BitVec 1 := Scalar.andi v691 v693
  let v680 : BitVec 32 := Scalar.divsi arg0 c8_i32_329
  let c1_i32_335 : BitVec 32 := 1#32
  let v695 : BitVec 32 := Scalar.subi v680 c1_i32_335
  let v696 : BitVec 32 := Scalar.select v694 v695 v680
  let c3_i32 : BitVec 32 := 3#32
  let v712 : BitVec 1 := Scalar.cmpi .eq v696 c3_i32
  let v713 : BitVec 32 := Scalar.extui v712
  let c0_i32_343 : BitVec 32 := 0#32
  let v714 : BitVec 1 := Scalar.cmpi .ne v713 c0_i32_343
  v714

def k0_off4 (i : grid0.Coords) : Fin 2 → Nat :=
  let c3 : Index := 3#32
  let arg0 : BitVec 32 := BitVec.ofNat 32 (i 0).val
  let c8_i32 : BitVec 32 := 8#32
  let c0_i32 : BitVec 32 := 0#32
  let v668 : BitVec 1 := Scalar.cmpi .eq c8_i32 c0_i32
  let c1_i32 : BitVec 32 := 1#32
  let v669 : BitVec 32 := Scalar.select v668 c1_i32 c8_i32
  let v670 : BitVec 32 := Scalar.remsi arg0 v669
  let c0_i32_327 : BitVec 32 := 0#32
  let v672 : BitVec 1 := Scalar.cmpi .slt v670 c0_i32_327
  let c0_i32_328 : BitVec 32 := 0#32
  let v673 : BitVec 1 := Scalar.cmpi .slt v669 c0_i32_328
  let v674 : BitVec 1 := Scalar.xori v672 v673
  let c0_i32_326 : BitVec 32 := 0#32
  let v671 : BitVec 1 := Scalar.cmpi .ne v670 c0_i32_326
  let v675 : BitVec 1 := Scalar.andi v674 v671
  let v676 : BitVec 32 := Scalar.addi v670 v669
  let v677 : BitVec 32 := Scalar.select v675 v676 v670
  let c512_i32 : BitVec 32 := 512#32
  let v678 : BitVec 32 := Scalar.muli v677 c512_i32
  let v679 : BitVec 32 := v678
  let v715 : Index := Scalar.indexCast v679
  ![3, v715.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1792x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OprojIdeal.lean ====
variable {F : FTy → Type} [FloatOps F] [Named F]
def κ : String → Option EReal := fun
  | "inv_d" => some ((1 / 3584 : ℝ) : EReal)
  | _ => none
-- ==== OprojRefIdeal.lean ====
abbrev S16384x1792 : Shape := ⟨2, ![16384, 1792]⟩
abbrev S16384x128 : Shape := ⟨2, ![16384, 128]⟩
abbrev S16384x3584 : Shape := ⟨2, ![16384, 3584]⟩
abbrev S1792x3584 : Shape := ⟨2, ![1792, 3584]⟩
abbrev S1x3584 : Shape := ⟨2, ![1, 3584]⟩
abbrev S4x4096 : Shape := ⟨2, ![4, 4096]⟩
abbrev S16384x1 : Shape := ⟨2, ![16384, 1]⟩
abbrev S16384 : Shape := ⟨1, ![16384]⟩

abbrev nBuf : Space → Nat
  | .hbm => 10
  | .vmem => 10
  | .smem => 0
  | _ => 0

abbrev bufTy : (tb : Table) → Fin (tcTables nBuf tb) → BufTy
  | .hbm, ⟨0, _⟩ => ⟨S16384x1792, .fp8e4m3⟩
  | .hbm, ⟨1, _⟩ => ⟨S16384x128, .f32⟩
  | .hbm, ⟨2, _⟩ => ⟨S16384x3584, .bf16⟩
  | .hbm, ⟨3, _⟩ => ⟨S1792x3584, .fp8e4m3⟩
  | .hbm, ⟨4, _⟩ => ⟨S1x3584, .f32⟩
  | .hbm, ⟨5, _⟩ => ⟨S1x3584, .f32⟩
  | .hbm, ⟨6, _⟩ => ⟨S16384x3584, .f32⟩
  | .hbm, ⟨7, _⟩ => ⟨S16384x3584, .fp8e4m3⟩
  | .hbm, ⟨8, _⟩ => ⟨S4x4096, .f32⟩
  | .hbm, ⟨9, _⟩ => ⟨S16384x128, .f32⟩
  | .local _ .vmem, ⟨0, _⟩ => ⟨S16384x1792, .fp8e4m3⟩
  | .local _ .vmem, ⟨1, _⟩ => ⟨S16384x128, .f32⟩
  | .local _ .vmem, ⟨2, _⟩ => ⟨S16384x3584, .bf16⟩
  | .local _ .vmem, ⟨3, _⟩ => ⟨S1792x3584, .fp8e4m3⟩
  | .local _ .vmem, ⟨4, _⟩ => ⟨S1x3584, .f32⟩
  | .local _ .vmem, ⟨5, _⟩ => ⟨S1x3584, .f32⟩
  | .local _ .vmem, ⟨6, _⟩ => ⟨S16384x3584, .f32⟩
  | .local _ .vmem, ⟨7, _⟩ => ⟨S16384x3584, .fp8e4m3⟩
  | .local _ .vmem, ⟨8, _⟩ => ⟨S4x4096, .f32⟩
  | .local _ .vmem, ⟨9, _⟩ => ⟨S16384x128, .f32⟩
  | _, _ => ⟨S16384x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S16384x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== GateUp.lean ====
abbrev S16384x3584 : Shape := ⟨2, ![16384, 3584]⟩
abbrev S16384x1 : Shape := ⟨2, ![16384, 1]⟩
abbrev S3584x18944 : Shape := ⟨2, ![3584, 18944]⟩
abbrev S1x18944 : Shape := ⟨2, ![1, 18944]⟩
abbrev S16384x128 : Shape := ⟨2, ![16384, 128]⟩
abbrev S16384x9472 : Shape := ⟨2, ![16384, 9472]⟩
abbrev S4x4096 : Shape := ⟨2, ![4, 4096]⟩
abbrev S512x3584 : Shape := ⟨2, ![512, 3584]⟩
abbrev S512x128 : Shape := ⟨2, ![512, 128]⟩
abbrev S3584x2048 : Shape := ⟨2, ![3584, 2048]⟩
abbrev S512x2048 : Shape := ⟨2, ![512, 2048]⟩
abbrev S37x512x256 : Shape := ⟨3, ![37, 512, 256]⟩
abbrev S1x512x128 : Shape := ⟨3, ![1, 512, 128]⟩
abbrev S3584x256 : Shape := ⟨2, ![3584, 256]⟩
abbrev S512x256 : Shape := ⟨2, ![512, 256]⟩
abbrev S1x128 : Shape := ⟨2, ![1, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩

abbrev nBuf : Space → Nat
  | .hbm => 8
  | .vmem => 17
  | .smem => 0
  | _ => 0

abbrev bufTy : (tb : Table) → Fin (tcTables nBuf tb) → BufTy
  | .hbm, ⟨0, _⟩ => ⟨S16384x3584, .fp8e4m3⟩
  | .hbm, ⟨1, _⟩ => ⟨S16384x1, .f32⟩
  | .hbm, ⟨2, _⟩ => ⟨S3584x18944, .fp8e4m3⟩
  | .hbm, ⟨3, _⟩ => ⟨S1x18944, .f32⟩
  | .hbm, ⟨4, _⟩ => ⟨S16384x128, .f32⟩
  | .hbm, ⟨5, _⟩ => ⟨S16384x9472, .fp8e4m3⟩
  | .hbm, ⟨6, _⟩ => ⟨S4x4096, .f32⟩
  | .hbm, ⟨7, _⟩ => ⟨S16384x128, .f32⟩
  | .local _ .vmem, ⟨0, _⟩ => ⟨S512x3584, .fp8e4m3⟩
  | .local _ .vmem, ⟨1, _⟩ => ⟨S512x3584, .fp8e4m3⟩
  | .local _ .vmem, ⟨2, _⟩ => ⟨S512x128, .f32⟩
  | .local _ .vmem, ⟨3, _⟩ => ⟨S512x128, .f32⟩
  | .local _ .vmem, ⟨4, _⟩ => ⟨S3584x2048, .fp8e4m3⟩
  | .local _ .vmem, ⟨5, _⟩ => ⟨S3584x2048, .fp8e4m3⟩
  | .local _ .vmem, ⟨6, _⟩ => ⟨S3584x2048, .fp8e4m3⟩
  | .local _ .vmem, ⟨7, _⟩ => ⟨S3584x2048, .fp8e4m3⟩
  | .local _ .vmem, ⟨8, _⟩ => ⟨S1x18944, .f32⟩
  | .local _ .vmem, ⟨9, _⟩ => ⟨S512x2048, .fp8e4m3⟩
  | .local _ .vmem, ⟨10, _⟩ => ⟨S512x2048, .fp8e4m3⟩
  | .local _ .vmem, ⟨11, _⟩ => ⟨S4x4096, .f32⟩
  | .local _ .vmem, ⟨12, _⟩ => ⟨S512x128, .f32⟩
  | .local _ .vmem, ⟨13, _⟩ => ⟨S512x128, .f32⟩
  | .local _ .vmem, ⟨14, _⟩ => ⟨S37x512x256, .f32⟩
  | .local _ .vmem, ⟨15, _⟩ => ⟨S512x128, .f32⟩
  | .local _ .vmem, ⟨16, _⟩ => ⟨S512x128, .f32⟩
  | _, _ => ⟨S16384x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![33, 5], ![false, false]⟩

def k0_mult1 (i : grid0.Coords) : BitVec 32 :=
  let arg0 : BitVec 32 := BitVec.ofNat 32 (i 0).val
  let c32_i32 : BitVec 32 := 32#32
  let v0 : BitVec 1 := Scalar.cmpi .slt arg0 c32_i32
  let arg1 : BitVec 32 := BitVec.ofNat 32 (i 1).val
  let c4_i32 : BitVec 32 := 4#32
  let v1 : BitVec 32 := Scalar.select v0 arg1 c4_i32
  let c2048_i32 : BitVec 32 := 2048#32
  let v2 : BitVec 32 := Scalar.muli v1 c2048_i32
  let c7424_i32 : BitVec 32 := 7424#32
  let v3 : BitVec 32 := Scalar.minsi v2 c7424_i32
  v3
def k0_mult2 (i : grid0.Coords) : BitVec 32 :=
  let c9472_i32 : BitVec 32 := 9472#32
  let arg0 : BitVec 32 := BitVec.ofNat 32 (i 0).val
  let c32_i32 : BitVec 32 := 32#32
  let v0 : BitVec 1 := Scalar.cmpi .slt arg0 c32_i32
  let arg1 : BitVec 32 := BitVec.ofNat 32 (i 1).val
  let c4_i32 : BitVec 32 := 4#32
  let v1 : BitVec 32 := Scalar.select v0 arg1 c4_i32
  let c2048_i32 : BitVec 32 := 2048#32
  let v2 : BitVec 32 := Scalar.muli v1 c2048_i32
  let c7424_i32 : BitVec 32 := 7424#32
  let v3 : BitVec 32 := Scalar.minsi v2 c7424_i32
  let v4 : BitVec 32 := Scalar.addi c9472_i32 v3
  v4
def k0_cond3 (i : grid0.Coords) : BitVec 1 :=
  let arg1 : BitVec 32 := BitVec.ofNat 32 (i 1).val
  let c4_i32 : BitVec 32 := 4#32
  let v8 : BitVec 1 := Scalar.cmpi .slt arg1 c4_i32
  let arg0 : BitVec 32 := BitVec.ofNat 32 (i 0).val
  let c32_i32 : BitVec 32 := 32#32
  let v9 : BitVec 1 := Scalar.cmpi .slt arg0 c32_i32
  let v10 : BitVec 1 := Scalar.andi v8 v9
  let v11 : BitVec 32 := Scalar.extui v10
  let c0_i32_4 : BitVec 32 := 0#32
  let v12 : BitVec 1 := Scalar.cmpi .ne v11 c0_i32_4
  v12

def k0_off1 (i : grid0.Coords) (c0_i32_15 : BitVec 32) : Fin 3 → Nat :=
  let arg1 : BitVec 32 := BitVec.ofNat 32 (i 1).val
  let c8_i32 : BitVec 32 := 8#32
  let v31 : BitVec 32 := Scalar.muli arg1 c8_i32
  let v32 : BitVec 32 := Scalar.addi v31 c0_i32_15
  let v33 : Index := Scalar.indexCast v32
  let c0 : Index := 0#32
  let c0_16 : Index := 0#32
  ![v33.toNat, 0, 0]
def k0_off2 (i : grid0.Coords) (c0_i32_15 : BitVec 32) : Fin 3 → Nat :=
  let arg1 : BitVec 32 := BitVec.ofNat 32 (i 1).val
  let c8_i32 : BitVec 32 := 8#32
  let v31 : BitVec 32 := Scalar.muli arg1 c8_i32
  let v32 : BitVec 32 := Scalar.addi v31 c0_i32_15
  let v44 : Index := Scalar.indexCast v32
  let c0_22 : Index := 0#32
  let c128 : Index := 128#32
  ![v44.toNat, 0, 128]
def k0_mult3 (i : grid0.Coords) : BitVec 32 :=
  let arg1 : BitVec 32 := BitVec.ofNat 32 (i 1).val
  let c8_i32_29 : BitVec 32 := 8#32
  let v55 : BitVec 32 := Scalar.muli arg1 c8_i32_29
  let c0_i32_30 : BitVec 32 := 0#32
  let v56 : BitVec 32 := Scalar.addi v55 c0_i32_30
  let c256_i32 : BitVec 32 := 256#32
  let v63 : BitVec 32 := Scalar.muli v56 c256_i32
  v63
def k0_off3 (i : grid0.Coords) (c0_i32_30 : BitVec 32) (c0_i32_41 : BitVec 32) : Fin 2 → Nat :=
  let c0_42 : Index := 0#32
  let arg1 : BitVec 32 := BitVec.ofNat 32 (i 1).val
  let c8_i32_29 : BitVec 32 := 8#32
  let v55 : BitVec 32 := Scalar.muli arg1 c8_i32_29
  let v56 : BitVec 32 := Scalar.addi v55 c0_i32_30
  let c256_i32 : BitVec 32 := 256#32
  let v63 : BitVec 32 := Scalar.muli v56 c256_i32
  let v64 : BitVec 32 := v63
  let v65 : BitVec 32 := Scalar.addi v64 c0_i32_41
  let v66 : Index := Scalar.indexCast v65
  ![0, v66.toNat]
def k0_off4 (i : grid0.Coords) (c0_i32_30 : BitVec 32) (c0_i32_43 : BitVec 32) : Fin 2 → Nat :=
  let c0_44 : Index := 0#32
  let c9472_i32 : BitVec 32 := 9472#32
  let arg1 : BitVec 32 := BitVec.ofNat 32 (i 1).val
  let c8_i32_29 : BitVec 32 := 8#32
  let v55 : BitVec 32 := Scalar.muli arg1 c8_i32_29
  let v56 : BitVec 32 := Scalar.addi v55 c0_i32_30
  let c256_i32 : BitVec 32 := 256#32
  let v63 : BitVec 32 := Scalar.muli v56 c256_i32
  let v64 : BitVec 32 := v63
  let v68 : BitVec 32 := Scalar.addi c9472_i32 v64
  let v69 : BitVec 32 := Scalar.addi v68 c0_i32_43
  let v70 : Index := Scalar.indexCast v69
  ![0, v70.toNat]
def k0_mult4 (i : grid0.Coords) : BitVec 32 :=
  let arg1 : BitVec 32 := BitVec.ofNat 32 (i 1).val
  let c8_i32_84 : BitVec 32 := 8#32
  let v153 : BitVec 32 := Scalar.muli arg1 c8_i32_84
  let c1_i32_85 : BitVec 32 := 1#32
  let v154 : BitVec 32 := Scalar.addi v153 c1_i32_85
  let c256_i32_96 : BitVec 32 := 256#32
  let v161 : BitVec 32 := Scalar.muli v154 c256_i32_96
  v161
def k0_mult5 (i : grid0.Coords) : BitVec 32 :=
  let arg1 : BitVec 32 := BitVec.ofNat 32 (i 1).val
  let c8_i32_142 : BitVec 32 := 8#32
  let v251 : BitVec 32 := Scalar.muli arg1 c8_i32_142
  let c2_i32_143 : BitVec 32 := 2#32
  let v252 : BitVec 32 := Scalar.addi v251 c2_i32_143
  let c256_i32_154 : BitVec 32 := 256#32
  let v259 : BitVec 32 := Scalar.muli v252 c256_i32_154
  v259
def k0_mult6 (i : grid0.Coords) : BitVec 32 :=
  let arg1 : BitVec 32 := BitVec.ofNat 32 (i 1).val
  let c8_i32_200 : BitVec 32 := 8#32
  let v349 : BitVec 32 := Scalar.muli arg1 c8_i32_200
  let c3_i32_201 : BitVec 32 := 3#32
  let v350 : BitVec 32 := Scalar.addi v349 c3_i32_201
  let c256_i32_212 : BitVec 32 := 256#32
  let v357 : BitVec 32 := Scalar.muli v350 c256_i32_212
  v357
def k0_mult7 (i : grid0.Coords) : BitVec 32 :=
  let arg1 : BitVec 32 := BitVec.ofNat 32 (i 1).val
  let c8_i32_259 : BitVec 32 := 8#32
  let v447 : BitVec 32 := Scalar.muli arg1 c8_i32_259
  let c4_i32_260 : BitVec 32 := 4#32
  let v448 : BitVec 32 := Scalar.addi v447 c4_i32_260
  let c256_i32_271 : BitVec 32 := 256#32
  let v455 : BitVec 32 := Scalar.muli v448 c256_i32_271
  v455
def k0_mult8 (i : grid0.Coords) : BitVec 32 :=
  let arg1 : BitVec 32 := BitVec.ofNat 32 (i 1).val
  let c8_i32_317 : BitVec 32 := 8#32
  let v545 : BitVec 32 := Scalar.muli arg1 c8_i32_317
  let c5_i32_318 : BitVec 32 := 5#32
  let v546 : BitVec 32 := Scalar.addi v545 c5_i32_318
  let c256_i32_329 : BitVec 32 := 256#32
  let v553 : BitVec 32 := Scalar.muli v546 c256_i32_329
  v553
def k0_mult9 (i : grid0.Coords) : BitVec 32 :=
  let arg1 : BitVec 32 := BitVec.ofNat 32 (i 1).val
  let c8_i32_375 : BitVec 32 := 8#32
  let v643 : BitVec 32 := Scalar.muli arg1 c8_i32_375
  let c6_i32_376 : BitVec 32 := 6#32
  let v644 : BitVec 32 := Scalar.addi v643 c6_i32_376
  let c256_i32_387 : BitVec 32 := 256#32
  let v651 : BitVec 32 := Scalar.muli v644 c256_i32_387
  v651
def k0_mult10 (i : grid0.Coords) : BitVec 32 :=
  let arg1 : BitVec 32 := BitVec.ofNat 32 (i 1).val
  let c8_i32_433 : BitVec 32 := 8#32
  let v741 : BitVec 32 := Scalar.muli arg1 c8_i32_433
  let c7_i32_434 : BitVec 32 := 7#32
  let v742 : BitVec 32 := Scalar.addi v741 c7_i32_434
  let c256_i32_445 : BitVec 32 := 256#32
  let v749 : BitVec 32 := Scalar.muli v742 c256_i32_445
  v749
def k0_cond4 (i : grid0.Coords) : BitVec 1 :=
  let arg1 : BitVec 32 := BitVec.ofNat 32 (i 1).val
  let c4_i32 : BitVec 32 := 4#32
  let v8 : BitVec 1 := Scalar.cmpi .slt arg1 c4_i32
  let arg0 : BitVec 32 := BitVec.ofNat 32 (i 0).val
  let c32_i32_5 : BitVec 32 := 32#32
  let v13 : BitVec 1 := Scalar.cmpi .eq arg0 c32_i32_5
  let v14 : BitVec 1 := Scalar.andi v8 v13
  let v15 : BitVec 32 := Scalar.extui v14
  let c0_i32_6 : BitVec 32 := 0#32
  let v16 : BitVec 1 := Scalar.cmpi .ne v15 c0_i32_6
  v16

def k0_off5 (i : grid0.Coords) (c0_i32_15 : BitVec 32) : Fin 3 → Nat :=
  let arg1 : BitVec 32 := BitVec.ofNat 32 (i 1).val
  let c8_i32 : BitVec 32 := 8#32
  let v31 : BitVec 32 := Scalar.muli arg1 c8_i32
  let v32 : BitVec 32 := Scalar.addi v31 c0_i32_15
  let v33 : Index := Scalar.indexCast v32
  let c0 : Index := 0#32
  let c0_16 : Index := 0#32
  ![v33.toNat, 0, 0]
def k0_off6 (i : grid0.Coords) (c0_i32_15 : BitVec 32) : Fin 3 → Nat :=
  let arg1 : BitVec 32 := BitVec.ofNat 32 (i 1).val
  let c8_i32 : BitVec 32 := 8#32
  let v31 : BitVec 32 := Scalar.muli arg1 c8_i32
  let v32 : BitVec 32 := Scalar.addi v31 c0_i32_15
  let v44 : Index := Scalar.indexCast v32
  let c0_22 : Index := 0#32
  let c128 : Index := 128#32
  ![v44.toNat, 0, 128]
def k0_cond5 (i : grid0.Coords) : BitVec 1 :=
  let arg1 : BitVec 32 := BitVec.ofNat 32 (i 1).val
  let c4_i32_7 : BitVec 32 := 4#32
  let v17 : BitVec 1 := Scalar.cmpi .eq arg1 c4_i32_7
  let arg0 : BitVec 32 := BitVec.ofNat 32 (i 0).val
  let c32_i32_8 : BitVec 32 := 32#32
  let v18 : BitVec 1 := Scalar.cmpi .slt arg0 c32_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_off7 (i : grid0.Coords) (c0_i32_15 : BitVec 32) : Fin 3 → Nat :=
  let arg1 : BitVec 32 := BitVec.ofNat 32 (i 1).val
  let c8_i32 : BitVec 32 := 8#32
  let v31 : BitVec 32 := Scalar.muli arg1 c8_i32
  let v32 : BitVec 32 := Scalar.addi v31 c0_i32_15
  let v33 : Index := Scalar.indexCast v32
  let c0 : Index := 0#32
  let c0_16 : Index := 0#32
  ![v33.toNat, 0, 0]
def k0_off8 (i : grid0.Coords) (c0_i32_15 : BitVec 32) : Fin 3 → Nat :=
  let arg1 : BitVec 32 := BitVec.ofNat 32 (i 1).val
  let c8_i32 : BitVec 32 := 8#32
  let v31 : BitVec 32 := Scalar.muli arg1 c8_i32
  let v32 : BitVec 32 := Scalar.addi v31 c0_i32_15
  let v44 : Index := Scalar.indexCast v32
  let c0_22 : Index := 0#32
  let c128 : Index := 128#32
  ![v44.toNat, 0, 128]
def k0_mult11 (i : grid0.Coords) : BitVec 32 :=
  let arg1 : BitVec 32 := BitVec.ofNat 32 (i 1).val
  let c8_i32_29 : BitVec 32 := 8#32
  let v55 : BitVec 32 := Scalar.muli arg1 c8_i32_29
  let c0_i32_30 : BitVec 32 := 0#32
  let v56 : BitVec 32 := Scalar.addi v55 c0_i32_30
  let c256_i32 : BitVec 32 := 256#32
  let v63 : BitVec 32 := Scalar.muli v56 c256_i32
  v63
def k0_off9 (i : grid0.Coords) (c0_i32_30 : BitVec 32) (c0_i32_40 : BitVec 32) : Fin 2 → Nat :=
  let c0_41 : Index := 0#32
  let arg1 : BitVec 32 := BitVec.ofNat 32 (i 1).val
  let c8_i32_29 : BitVec 32 := 8#32
  let v55 : BitVec 32 := Scalar.muli arg1 c8_i32_29
  let v56 : BitVec 32 := Scalar.addi v55 c0_i32_30
  let c256_i32 : BitVec 32 := 256#32
  let v63 : BitVec 32 := Scalar.muli v56 c256_i32
  let v64 : BitVec 32 := v63
  let v65 : BitVec 32 := Scalar.addi v64 c0_i32_40
  let v66 : Index := Scalar.indexCast v65
  ![0, v66.toNat]
def k0_off10 (i : grid0.Coords) (c0_i32_30 : BitVec 32) (c0_i32_42 : BitVec 32) : Fin 2 → Nat :=
  let c0_43 : Index := 0#32
  let c9472_i32 : BitVec 32 := 9472#32
  let arg1 : BitVec 32 := BitVec.ofNat 32 (i 1).val
  let c8_i32_29 : BitVec 32 := 8#32
  let v55 : BitVec 32 := Scalar.muli arg1 c8_i32_29
  let v56 : BitVec 32 := Scalar.addi v55 c0_i32_30
  let c256_i32 : BitVec 32 := 256#32
  let v63 : BitVec 32 := Scalar.muli v56 c256_i32
  let v64 : BitVec 32 := v63
  let v68 : BitVec 32 := Scalar.addi c9472_i32 v64
  let v69 : BitVec 32 := Scalar.addi v68 c0_i32_42
  let v70 : Index := Scalar.indexCast v69
  ![0, v70.toNat]
def k0_mult12 (i : grid0.Coords) : BitVec 32 :=
  let arg1 : BitVec 32 := BitVec.ofNat 32 (i 1).val
  let c8_i32_83 : BitVec 32 := 8#32
  let v153 : BitVec 32 := Scalar.muli arg1 c8_i32_83
  let c1_i32_84 : BitVec 32 := 1#32
  let v154 : BitVec 32 := Scalar.addi v153 c1_i32_84
  let c256_i32_94 : BitVec 32 := 256#32
  let v161 : BitVec 32 := Scalar.muli v154 c256_i32_94
  v161
def k0_mult13 (i : grid0.Coords) : BitVec 32 :=
  let arg1 : BitVec 32 := BitVec.ofNat 32 (i 1).val
  let c8_i32_140 : BitVec 32 := 8#32
  let v251 : BitVec 32 := Scalar.muli arg1 c8_i32_140
  let c2_i32_141 : BitVec 32 := 2#32
  let v252 : BitVec 32 := Scalar.addi v251 c2_i32_141
  let c256_i32_151 : BitVec 32 := 256#32
  let v259 : BitVec 32 := Scalar.muli v252 c256_i32_151
  v259
def k0_mult14 (i : grid0.Coords) : BitVec 32 :=
  let arg1 : BitVec 32 := BitVec.ofNat 32 (i 1).val
  let c8_i32_198 : BitVec 32 := 8#32
  let v349 : BitVec 32 := Scalar.muli arg1 c8_i32_198
  let c3_i32_199 : BitVec 32 := 3#32
  let v350 : BitVec 32 := Scalar.addi v349 c3_i32_199
  let c256_i32_209 : BitVec 32 := 256#32
  let v357 : BitVec 32 := Scalar.muli v350 c256_i32_209
  v357
def k0_mult15 (i : grid0.Coords) : BitVec 32 :=
  let arg1 : BitVec 32 := BitVec.ofNat 32 (i 1).val
  let c8_i32_257 : BitVec 32 := 8#32
  let v447 : BitVec 32 := Scalar.muli arg1 c8_i32_257
  let c4_i32_258 : BitVec 32 := 4#32
  let v448 : BitVec 32 := Scalar.addi v447 c4_i32_258
  let c256_i32_268 : BitVec 32 := 256#32
  let v455 : BitVec 32 := Scalar.muli v448 c256_i32_268
  v455
def k0_cond6 (i : grid0.Coords) : BitVec 1 :=
  let arg1 : BitVec 32 := BitVec.ofNat 32 (i 1).val
  let c4_i32_7 : BitVec 32 := 4#32
  let v17 : BitVec 1 := Scalar.cmpi .eq arg1 c4_i32_7
  let arg0 : BitVec 32 := BitVec.ofNat 32 (i 0).val
  let c32_i32_10 : BitVec 32 := 32#32
  let v22 : BitVec 1 := Scalar.cmpi .eq arg0 c32_i32_10
  let v23 : BitVec 1 := Scalar.andi v17 v22
  let v24 : BitVec 32 := Scalar.extui v23
  let c0_i32_11 : BitVec 32 := 0#32
  let v25 : BitVec 1 := Scalar.cmpi .ne v24 c0_i32_11
  v25

def k0_off11 (i : grid0.Coords) (c0_i32_15 : BitVec 32) : Fin 3 → Nat :=
  let arg1 : BitVec 32 := BitVec.ofNat 32 (i 1).val
  let c8_i32 : BitVec 32 := 8#32
  let v31 : BitVec 32 := Scalar.muli arg1 c8_i32
  let v32 : BitVec 32 := Scalar.addi v31 c0_i32_15
  let v33 : Index := Scalar.indexCast v32
  let c0 : Index := 0#32
  let c0_16 : Index := 0#32
  ![v33.toNat, 0, 0]
def k0_off12 (i : grid0.Coords) (c0_i32_15 : BitVec 32) : Fin 3 → Nat :=
  let arg1 : BitVec 32 := BitVec.ofNat 32 (i 1).val
  let c8_i32 : BitVec 32 := 8#32
  let v31 : BitVec 32 := Scalar.muli arg1 c8_i32
  let v32 : BitVec 32 := Scalar.addi v31 c0_i32_15
  let v44 : Index := Scalar.indexCast v32
  let c0_22 : Index := 0#32
  let c128 : Index := 128#32
  ![v44.toNat, 0, 128]
def k0_cond7 (i : grid0.Coords) : BitVec 1 :=
  let arg1 : BitVec 32 := BitVec.ofNat 32 (i 1).val
  let c4_i32_12 : BitVec 32 := 4#32
  let v26 : BitVec 1 := Scalar.cmpi .eq arg1 c4_i32_12
  let arg0 : BitVec 32 := BitVec.ofNat 32 (i 0).val
  let c32_i32_13 : BitVec 32 := 32#32
  let v27 : BitVec 1 := Scalar.cmpi .slt arg0 c32_i32_13
  let v28 : BitVec 1 := Scalar.andi v26 v27
  let v29 : BitVec 32 := Scalar.extui v28
  let c0_i32_14 : BitVec 32 := 0#32
  let v30 : BitVec 1 := Scalar.cmpi .ne v29 c0_i32_14
  v30

def k0_mult16 (i : grid0.Coords) : BitVec 32 :=
  let arg0 : BitVec 32 := BitVec.ofNat 32 (i 0).val
  let c8_i32 : BitVec 32 := 8#32
  let c0_i32_24 : BitVec 32 := 0#32
  let v50 : BitVec 1 := Scalar.cmpi .eq c8_i32 c0_i32_24
  let c1_i32 : BitVec 32 := 1#32
  let v51 : BitVec 32 := Scalar.select v50 c1_i32 c8_i32
  let v52 : BitVec 32 := Scalar.remsi arg0 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c512_i32 : BitVec 32 := 512#32
  let v60 : BitVec 32 := Scalar.muli v59 c512_i32
  v60
def k0_cond8 (i : grid0.Coords) : BitVec 1 :=
  let arg0 : BitVec 32 := BitVec.ofNat 32 (i 0).val
  let c0_i32_29 : BitVec 32 := 0#32
  let v63 : BitVec 1 := Scalar.cmpi .sgt arg0 c0_i32_29
  let v64 : BitVec 32 := Scalar.extui v63
  let c0_i32_30 : BitVec 32 := 0#32
  let v65 : BitVec 1 := Scalar.cmpi .slt arg0 c0_i32_30
  let v66 : BitVec 32 := Scalar.extui v65
  let v67 : BitVec 32 := Scalar.subi v64 v66
  let c8_i32_28 : BitVec 32 := 8#32
  let c0_i32_31 : BitVec 32 := 0#32
  let v68 : BitVec 1 := Scalar.cmpi .sgt c8_i32_28 c0_i32_31
  let v69 : BitVec 32 := Scalar.extui v68
  let c0_i32_32 : BitVec 32 := 0#32
  let v70 : BitVec 1 := Scalar.cmpi .slt c8_i32_28 c0_i32_32
  let v71 : BitVec 32 := Scalar.extui v70
  let v72 : BitVec 32 := Scalar.subi v69 v71
  let v73 : BitVec 1 := Scalar.cmpi .ne v67 v72
  let v74 : BitVec 32 := Scalar.remsi arg0 c8_i32_28
  let c0_i32_33 : BitVec 32 := 0#32
  let v75 : BitVec 1 := Scalar.cmpi .ne v74 c0_i32_33
  let v76 : BitVec 1 := Scalar.andi v73 v75
  let v62 : BitVec 32 := Scalar.divsi arg0 c8_i32_28
  let c1_i32_34 : BitVec 32 := 1#32
  let v77 : BitVec 32 := Scalar.subi v62 c1_i32_34
  let v78 : BitVec 32 := Scalar.select v76 v77 v62
  let c0_i32_35 : BitVec 32 := 0#32
  let v83 : BitVec 1 := Scalar.cmpi .eq v78 c0_i32_35
  let v84 : BitVec 32 := Scalar.extui v83
  let c0_i32_36 : BitVec 32 := 0#32
  let v85 : BitVec 1 := Scalar.cmpi .ne v84 c0_i32_36
  v85

def k0_off13 (i : grid0.Coords) : Fin 2 → Nat :=
  let c0_41 : Index := 0#32
  let arg0 : BitVec 32 := BitVec.ofNat 32 (i 0).val
  let c8_i32 : BitVec 32 := 8#32
  let c0_i32_24 : BitVec 32 := 0#32
  let v50 : BitVec 1 := Scalar.cmpi .eq c8_i32 c0_i32_24
  let c1_i32 : BitVec 32 := 1#32
  let v51 : BitVec 32 := Scalar.select v50 c1_i32 c8_i32
  let v52 : BitVec 32 := Scalar.remsi arg0 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c512_i32 : BitVec 32 := 512#32
  let v60 : BitVec 32 := Scalar.muli v59 c512_i32
  let v61 : BitVec 32 := v60
  let v95 : Index := Scalar.indexCast v61
  ![0, v95.toNat]
def k0_cond9 (i : grid0.Coords) : BitVec 1 :=
  let arg0 : BitVec 32 := BitVec.ofNat 32 (i 0).val
  let c0_i32_29 : BitVec 32 := 0#32
  let v63 : BitVec 1 := Scalar.cmpi .sgt arg0 c0_i32_29
  let v64 : BitVec 32 := Scalar.extui v63
  let c0_i32_30 : BitVec 32 := 0#32
  let v65 : BitVec 1 := Scalar.cmpi .slt arg0 c0_i32_30
  let v66 : BitVec 32 := Scalar.extui v65
  let v67 : BitVec 32 := Scalar.subi v64 v66
  let c8_i32_28 : BitVec 32 := 8#32
  let c0_i32_31 : BitVec 32 := 0#32
  let v68 : BitVec 1 := Scalar.cmpi .sgt c8_i32_28 c0_i32_31
  let v69 : BitVec 32 := Scalar.extui v68
  let c0_i32_32 : BitVec 32 := 0#32
  let v70 : BitVec 1 := Scalar.cmpi .slt c8_i32_28 c0_i32_32
  let v71 : BitVec 32 := Scalar.extui v70
  let v72 : BitVec 32 := Scalar.subi v69 v71
  let v73 : BitVec 1 := Scalar.cmpi .ne v67 v72
  let v74 : BitVec 32 := Scalar.remsi arg0 c8_i32_28
  let c0_i32_33 : BitVec 32 := 0#32
  let v75 : BitVec 1 := Scalar.cmpi .ne v74 c0_i32_33
  let v76 : BitVec 1 := Scalar.andi v73 v75
  let v62 : BitVec 32 := Scalar.divsi arg0 c8_i32_28
  let c1_i32_34 : BitVec 32 := 1#32
  let v77 : BitVec 32 := Scalar.subi v62 c1_i32_34
  let v78 : BitVec 32 := Scalar.select v76 v77 v62
  let c1_i32_37 : BitVec 32 := 1#32
  let v86 : BitVec 1 := Scalar.cmpi .eq v78 c1_i32_37
  let v87 : BitVec 32 := Scalar.extui v86
  let c0_i32_38 : BitVec 32 := 0#32
  let v88 : BitVec 1 := Scalar.cmpi .ne v87 c0_i32_38
  v88

def k0_off14 (i : grid0.Coords) : Fin 2 → Nat :=
  let c1 : Index := 1#32
  let arg0 : BitVec 32 := BitVec.ofNat 32 (i 0).val
  let c8_i32 : BitVec 32 := 8#32
  let c0_i32_24 : BitVec 32 := 0#32
  let v50 : BitVec 1 := Scalar.cmpi .eq c8_i32 c0_i32_24
  let c1_i32 : BitVec 32 := 1#32
  let v51 : BitVec 32 := Scalar.select v50 c1_i32 c8_i32
  let v52 : BitVec 32 := Scalar.remsi arg0 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c512_i32 : BitVec 32 := 512#32
  let v60 : BitVec 32 := Scalar.muli v59 c512_i32
  let v61 : BitVec 32 := v60
  let v95 : Index := Scalar.indexCast v61
  ![1, v95.toNat]
def k0_cond10 (i : grid0.Coords) : BitVec 1 :=
  let arg0 : BitVec 32 := BitVec.ofNat 32 (i 0).val
  let c0_i32_29 : BitVec 32 := 0#32
  let v63 : BitVec 1 := Scalar.cmpi .sgt arg0 c0_i32_29
  let v64 : BitVec 32 := Scalar.extui v63
  let c0_i32_30 : BitVec 32 := 0#32
  let v65 : BitVec 1 := Scalar.cmpi .slt arg0 c0_i32_30
  let v66 : BitVec 32 := Scalar.extui v65
  let v67 : BitVec 32 := Scalar.subi v64 v66
  let c8_i32_28 : BitVec 32 := 8#32
  let c0_i32_31 : BitVec 32 := 0#32
  let v68 : BitVec 1 := Scalar.cmpi .sgt c8_i32_28 c0_i32_31
  let v69 : BitVec 32 := Scalar.extui v68
  let c0_i32_32 : BitVec 32 := 0#32
  let v70 : BitVec 1 := Scalar.cmpi .slt c8_i32_28 c0_i32_32
  let v71 : BitVec 32 := Scalar.extui v70
  let v72 : BitVec 32 := Scalar.subi v69 v71
  let v73 : BitVec 1 := Scalar.cmpi .ne v67 v72
  let v74 : BitVec 32 := Scalar.remsi arg0 c8_i32_28
  let c0_i32_33 : BitVec 32 := 0#32
  let v75 : BitVec 1 := Scalar.cmpi .ne v74 c0_i32_33
  let v76 : BitVec 1 := Scalar.andi v73 v75
  let v62 : BitVec 32 := Scalar.divsi arg0 c8_i32_28
  let c1_i32_34 : BitVec 32 := 1#32
  let v77 : BitVec 32 := Scalar.subi v62 c1_i32_34
  let v78 : BitVec 32 := Scalar.select v76 v77 v62
  let c2_i32 : BitVec 32 := 2#32
  let v89 : BitVec 1 := Scalar.cmpi .eq v78 c2_i32
  let v90 : BitVec 32 := Scalar.extui v89
  let c0_i32_39 : BitVec 32 := 0#32
  let v91 : BitVec 1 := Scalar.cmpi .ne v90 c0_i32_39
  v91

def k0_off15 (i : grid0.Coords) : Fin 2 → Nat :=
  let c2 : Index := 2#32
  let arg0 : BitVec 32 := BitVec.ofNat 32 (i 0).val
  let c8_i32 : BitVec 32 := 8#32
  let c0_i32_24 : BitVec 32 := 0#32
  let v50 : BitVec 1 := Scalar.cmpi .eq c8_i32 c0_i32_24
  let c1_i32 : BitVec 32 := 1#32
  let v51 : BitVec 32 := Scalar.select v50 c1_i32 c8_i32
  let v52 : BitVec 32 := Scalar.remsi arg0 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c512_i32 : BitVec 32 := 512#32
  let v60 : BitVec 32 := Scalar.muli v59 c512_i32
  let v61 : BitVec 32 := v60
  let v95 : Index := Scalar.indexCast v61
  ![2, v95.toNat]
def k0_cond11 (i : grid0.Coords) : BitVec 1 :=
  let arg0 : BitVec 32 := BitVec.ofNat 32 (i 0).val
  let c0_i32_29 : BitVec 32 := 0#32
  let v63 : BitVec 1 := Scalar.cmpi .sgt arg0 c0_i32_29
  let v64 : BitVec 32 := Scalar.extui v63
  let c0_i32_30 : BitVec 32 := 0#32
  let v65 : BitVec 1 := Scalar.cmpi .slt arg0 c0_i32_30
  let v66 : BitVec 32 := Scalar.extui v65
  let v67 : BitVec 32 := Scalar.subi v64 v66
  let c8_i32_28 : BitVec 32 := 8#32
  let c0_i32_31 : BitVec 32 := 0#32
  let v68 : BitVec 1 := Scalar.cmpi .sgt c8_i32_28 c0_i32_31
  let v69 : BitVec 32 := Scalar.extui v68
  let c0_i32_32 : BitVec 32 := 0#32
  let v70 : BitVec 1 := Scalar.cmpi .slt c8_i32_28 c0_i32_32
  let v71 : BitVec 32 := Scalar.extui v70
  let v72 : BitVec 32 := Scalar.subi v69 v71
  let v73 : BitVec 1 := Scalar.cmpi .ne v67 v72
  let v74 : BitVec 32 := Scalar.remsi arg0 c8_i32_28
  let c0_i32_33 : BitVec 32 := 0#32
  let v75 : BitVec 1 := Scalar.cmpi .ne v74 c0_i32_33
  let v76 : BitVec 1 := Scalar.andi v73 v75
  let v62 : BitVec 32 := Scalar.divsi arg0 c8_i32_28
  let c1_i32_34 : BitVec 32 := 1#32
  let v77 : BitVec 32 := Scalar.subi v62 c1_i32_34
  let v78 : BitVec 32 := Scalar.select v76 v77 v62
  let c3_i32 : BitVec 32 := 3#32
  let v92 : BitVec 1 := Scalar.cmpi .eq v78 c3_i32
  let v93 : BitVec 32 := Scalar.extui v92
  let c0_i32_40 : BitVec 32 := 0#32
  let v94 : BitVec 1 := Scalar.cmpi .ne v93 c0_i32_40
  v94

def k0_off16 (i : grid0.Coords) : Fin 2 → Nat :=
  let c3 : Index := 3#32
  let arg0 : BitVec 32 := BitVec.ofNat 32 (i 0).val
  let c8_i32 : BitVec 32 := 8#32
  let c0_i32_24 : BitVec 32 := 0#32
  let v50 : BitVec 1 := Scalar.cmpi .eq c8_i32 c0_i32_24
  let c1_i32 : BitVec 32 := 1#32
  let v51 : BitVec 32 := Scalar.select v50 c1_i32 c8_i32
  let v52 : BitVec 32 := Scalar.remsi arg0 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let c512_i32 : BitVec 32 := 512#32
  let v60 : BitVec 32 := Scalar.muli v59 c512_i32
  let v61 : BitVec 32 := v60
  let v95 : Index := Scalar.indexCast v61
  ![3, v95.toNat]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c4_i32 : BitVec 32 := 4#32
  let v1 : BitVec 32 := Scalar.select v0 arg1 c4_i32
  let c2048_i32 : BitVec 32 := 2048#32
  let v2 : BitVec 32 := Scalar.muli v1 c2048_i32
  let c7424_i32 : BitVec 32 := 7424#32
  let v3 : BitVec 32 := Scalar.minsi v2 c7424_i32
  let v4 : BitVec 32 := v3
  let c0_i32 : BitVec 32 := 0#32
  let c0_i32_0 : BitVec 32 := 0#32
  ![c0_i32.toNat, v4.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c4_i32 : BitVec 32 := 4#32
  let v1 : BitVec 32 := Scalar.select v0 arg1 c4_i32
  let c2048_i32 : BitVec 32 := 2048#32
  let v2 : BitVec 32 := Scalar.muli v1 c2048_i32
  let c7424_i32 : BitVec 32 := 7424#32
  let v3 : BitVec 32 := Scalar.minsi v2 c7424_i32
  let c9472_i32 : BitVec 32 := 9472#32
  let v4 : BitVec 32 := Scalar.addi c9472_i32 v3
  let v5 : BitVec 32 := v4
  let c0_i32 : BitVec 32 := 0#32
  let c0_i32_0 : BitVec 32 := 0#32
  ![c0_i32.toNat, v5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3584x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x18944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpRefIdeal.lean ====
abbrev S16384x3584 : Shape := ⟨2, ![16384, 3584]⟩
abbrev S16384x1 : Shape := ⟨2, ![16384, 1]⟩
abbrev S3584x18944 : Shape := ⟨2, ![3584, 18944]⟩
abbrev S1x18944 : Shape := ⟨2, ![1, 18944]⟩
abbrev S4x4096 : Shape := ⟨2, ![4, 4096]⟩
abbrev S16384x18944 : Shape := ⟨2, ![16384, 18944]⟩
abbrev S16384x9472 : Shape := ⟨2, ![16384, 9472]⟩
abbrev S16384 : Shape := ⟨1, ![16384]⟩

abbrev nBuf : Space → Nat
  | .hbm => 5
  | .vmem => 5
  | .smem => 0
  | _ => 0

abbrev bufTy : (tb : Table) → Fin (tcTables nBuf tb) → BufTy
  | .hbm, ⟨0, _⟩ => ⟨S16384x3584, .fp8e4m3⟩
  | .hbm, ⟨1, _⟩ => ⟨S16384x1, .f32⟩
  | .hbm, ⟨2, _⟩ => ⟨S3584x18944, .fp8e4m3⟩
  | .hbm, ⟨3, _⟩ => ⟨S1x18944, .f32⟩
  | .hbm, ⟨4, _⟩ => ⟨S4x4096, .f32⟩
  | .local _ .vmem, ⟨0, _⟩ => ⟨S16384x3584, .fp8e4m3⟩
  | .local _ .vmem, ⟨1, _⟩ => ⟨S16384x1, .f32⟩
  | .local _ .vmem, ⟨2, _⟩ => ⟨S3584x18944, .fp8e4m3⟩
  | .local _ .vmem, ⟨3, _⟩ => ⟨S1x18944, .f32⟩
  | .local _ .vmem, ⟨4, _⟩ => ⟨S4x4096, .f32⟩
  | _, _ => ⟨S16384x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Down.Value.lean ====
/- What the output projection of the feed-forward layer computes: the array that the tiled kernel leaves is the
   reference's whole-array expression of the argument arrays. -/
module

public import proofs.«01_k».proof.Proof.Gen.DownIdeal.Value
public import proofs.«01_k».proof.Proof.Gen.DownRefIdeal.Value
public import Idealize.ShloMosaic.Lib.Pointwise
public import Idealize.ShloMosaic.Lib.Pipeline.ValueKit

@[expose] public section

set_option maxRecDepth 16384

noncomputable section

namespace Cert.DownIdeal.Down

open Idealize.ShloMosaic Idealize.ShloMosaic.TcCoe Idealize.SL.Sem
open Idealize.ShloMosaic.Pipeline (Dat)
open Cert.DownIdeal Cert.DownIdeal.Gen

variable (m : (ℓ : Loc nD τ sig) → Buf (Elt Ideal) ℓ)

/-- The block that each window holds at grid point `t`: the column half is `t / 32`, the row tile `t % 32`. -/
theorem idx : ∀ t : Fin cfg0.N, win0_0.index t = ![t.val % 32, 0] ∧ win0_1.index t = ![t.val % 32, 0]
    ∧ win0_2.index t = ![0, t.val / 32] ∧ win0_3.index t = ![0, t.val / 32]
    ∧ win0_4.index t = ![t.val % 32, t.val / 32] ∧ win0_5.index t = ![t.val % 32, t.val / 32] :=
  (by decide +kernel : ∀ t : Fin grid0.N, _)

/-- The reference's result as an expression of the argument arrays. -/
abbrev REF (a : FVec Ideal S16384x9472 .fp8e4m3) (s : FVec Ideal S16384x128 .f32) (w : FVec Ideal S9472x3584 .fp8e4m3)
    (ws : FVec Ideal S1x3584 .f32) (h : FVec Ideal S16384x3584 .f32) : FVec Ideal S16384x3584 .bf16 :=
  Cert.DownRefIdeal.Value.G5 (F := Ideal) a s w ws h

open Cert.DownRefIdeal.Gen in
/-- The reference's result at an index: the residual plus the scaled dot product. -/
theorem ref_apply (a : FVec Ideal S16384x9472 .fp8e4m3) (s : FVec Ideal S16384x128 .f32) (w : FVec Ideal S9472x3584 .fp8e4m3)
    (ws : FVec Ideal S1x3584 .f32) (h : FVec Ideal S16384x3584 .f32) (i : S16384x3584.Idx) :
    REF a s w ws h i = h i + (∑ k : Fin 9472, a (ix2 (i 0) k) * w (ix2 k (i 1))) * s (ix2 (i 0) 0) * ws (ix2 0 (i 1)) := by
  unfold REF Cert.DownRefIdeal.Value.G5 Cert.DownRefIdeal.Gen.k0_pay1
  idx_vars i
  pointwise

/-- What grid point `t` writes at index `y` of its block is the reference's result at that index of the array. -/
theorem point (c : Dev nD) (t : Fin cfg0.N) (y : S512x1792.Idx) :
    out0_5 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  unfold out0_5
  canon_tiles y h
  all_goals
    open_payloads
    rw [ref_apply]
    pointwise
    blk_point [iblk, V, idx t]

/-- The kernel leaves the reference's result in its output array. -/
theorem final (c : Dev nD) : (dats m 0 c).arrAt 5 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.DownIdeal.Down
-- ==== Proof.Oproj.Body.lean ====
/- The body of the output-projection call (`Oproj`), run once from whole staging buffers: it runs and leaves the inputs as they were. -/
module

public import proofs.«01_k».proof.Proof.Gen.Oproj.Frame
public import proofs.«01_k».proof.Proof.Gen.Oproj.Skeleton
public import Idealize.ShloMosaic.Lib.Claim
public import Idealize.ShloMosaic.Lib.WritesUnit

@[expose] public section

set_option maxRecDepth 16384

noncomputable section

namespace Cert.Oproj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Oproj.Gen

variable {F : FTy → Type} [BitOps F]

/-! ## The body's triple -/

set_option maxHeartbeats 8000000 in
/-- The body on whole staging buffers runs, and leaves the inputs' as they were. -/
theorem run (c : Dev nD) (E : Set ℕ) (i : grid0.Coords) (arg1 : Memref sig .tc .vmem S512x1792 .fp8e4m3) (harg1 : arg1.IsWhole) (arg2 : Memref sig .tc .vmem S512x128 .f32) (harg2 : arg2.IsWhole) (arg3 : Memref sig .tc .vmem S512x3584 .bf16) (harg3 : arg3.IsWhole) (arg4 : Memref sig .tc .vmem S1792x3584 .fp8e4m3) (harg4 : arg4.IsWhole) (arg5 : Memref sig .tc .vmem S1x3584 .f32) (harg5 : arg5.IsWhole) (arg6 : Memref sig .tc .vmem S1x3584 .f32) (harg6 : arg6.IsWhole) (arg7 : Memref sig .tc .vmem S512x3584 .f32) (harg7 : arg7.IsWhole) (arg8 : Memref sig .tc .vmem S512x3584 .fp8e4m3) (harg8 : arg8.IsWhole) (arg9 : Memref sig .tc .vmem S4x4096 .f32) (harg9 : arg9.IsWhole) (arg10 : Memref sig .tc .vmem S512x128 .f32) (harg10 : arg10.IsWhole)
    (x0 : Vec F S512x1792 .fp8e4m3) (x1 : Vec F S512x128 .f32) (x2 : Vec F S512x3584 .bf16) (x3 : Vec F S1792x3584 .fp8e4m3) (x4 : Vec F S1x3584 .f32) (x5 : Vec F S1x3584 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10) K := by
  simp only [cc0_oproj_eq_skeleton]; unfold cc0_oproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  iexists _; iexists _; isplitr
  swap; · iexact H9
  ipureintro; rfl

end Cert.Oproj.Hand

end
-- ==== Proof.Oproj.Run.lean ====
/- The run of the output-projection call (`Oproj`): the proof data point by point, the body's obligation, and the frame claim. -/
module

public import proofs.«01_k».proof.Proof.Oproj.Body
public import proofs.«01_k».proof.Proof.Gen.Oproj.Launch
public import Idealize.ShloMosaic.Lib.Pipeline.DatRel
public import Idealize.ShloMosaic.Lib.Pipeline.ArrRel
public import Idealize.ShloMosaic.Lib.Claim

@[expose] public section

set_option maxRecDepth 16384

noncomputable section

namespace Cert.Oproj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Oproj.Gen

variable {F : FTy → Type} [BitOps F]

variable (m : (ℓ : Loc nD τ sig) → Buf (Elt F) ℓ) (ρ : Dev nD → PrngReg)

/-! ## The proof data -/

/-- What the body leaves in each output window at point `t`: this certificate says nothing of it. -/
def left (c : Dev nD) (w : Fin cfg0.W) (t : Fin cfg0.N) : ((cfg0.win w).block.Idx → Elt F (cfg0.win w).elt) → Prop := fun _ => True

/-- The proof data of the one pipeline: the arrays as the region finds them, every input's buffer at its block, the outputs'
    left to `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The output windows. -/
def outs : Fin cfg0.W → Bool := fun w => w.val == 6 || w.val == 7 || w.val == 8 || w.val == 9

/-- The proof data with the outputs held to `left`. -/
abbrev rdats (c : Dev nD) : RDat τ (Elt F) Unit ℕ (UR sig nD τ) ℕ cfg0 c := (dats m 0 c).toRRel outs (left c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body's obligation -/

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ Y, ⌜(rdats m c).Finds 6 t Y⌝ ∗ owns (c : Thread nD τ) (st0_6 t) fullShare Y) ∗ (∃ Y, ⌜(rdats m c).Finds 7 t Y⌝ ∗ owns (c : Thread nD τ) (st0_7 t) fullShare Y) ∗ (∃ Y, ⌜(rdats m c).Finds 8 t Y⌝ ∗ owns (c : Thread nD τ) (st0_8 t) fullShare Y) ∗ (∃ Y, ⌜(rdats m c).Finds 9 t Y⌝ ∗ owns (c : Thread nD τ) (st0_9 t) fullShare Y))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ (∃ X, ⌜left c 6 t X⌝ ∗ owns (c : Thread nD τ) (st0_6 t) fullShare X) ∗ (∃ X, ⌜left c 7 t X⌝ ∗ owns (c : Thread nD τ) (st0_7 t) fullShare X) ∗ (∃ X, ⌜left c 8 t X⌝ ∗ owns (c : Thread nD τ) (st0_8 t) fullShare X) ∗ (∃ X, ⌜left c 9 t X⌝ ∗ owns (c : Thread nD τ) (st0_9 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩, ⟨%Y9, %hY9, H9⟩⟩
  iapply (run c Set.univ (grid0.coords t) _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, ⟨%X6, H6⟩, ⟨%X7, H7⟩, ⟨%X8, H8⟩, ⟨%X9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; isplitr; swap; (· iexact H6); ipureintro; trivial
  isplitl [H7]; · iexists _; isplitr; swap; (· iexact H7); ipureintro; trivial
  isplitl [H8]; · iexists _; isplitr; swap; (· iexact H8); ipureintro; trivial
  iexists _; isplitr; swap; (· iexact H9); ipureintro; trivial

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligationRel (dats (F := F) m 0 c) (defs₀ (F := F)) Variants.none () Set.univ outs (left c) := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: every array of the pipeline at what `left` allows, every other buffer as found, every counter zero. -/
theorem run_main : θ_run defs (onTc (τ := τ) (main (F := F))) (s₀ m ρ) (fun r => (RDat.FramePost (cfgs 0) (rdats m) (V m)) r ∧ r.2.sem = fun _ => 0) :=
  RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The argument arrays end unchanged. -/
theorem args_of {r} (h : RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((RDat.FramePost.arr_in h c 0 rfl).trans ((A_eq m c 0).trans (V_main_arg0 m c))), ((RDat.FramePost.arr_in h c 1 rfl).trans ((A_eq m c 1).trans (V_main_arg1 m c))), ((RDat.FramePost.arr_in h c 2 rfl).trans ((A_eq m c 2).trans (V_main_arg2 m c))), ((RDat.FramePost.arr_in h c 3 rfl).trans ((A_eq m c 3).trans (V_main_arg3 m c))), ((RDat.FramePost.arr_in h c 4 rfl).trans ((A_eq m c 4).trans (V_main_arg4 m c))), ((RDat.FramePost.arr_in h c 5 rfl).trans ((A_eq m c 5).trans (V_main_arg5 m c)))⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m h.1, h.2⟩) (run_main m ρ)

end Cert.Oproj.Hand

end
-- ==== Proof.OprojI.Body.lean ====
/- The body of the output-projection call (`OprojIdeal`), run once from whole staging buffers: what it leaves in each output window. -/
module

public import proofs.«01_k».proof.Proof.Gen.OprojIdeal.Frame
public import proofs.«01_k».proof.Proof.Gen.OprojIdeal.Skeleton
public import Idealize.ShloMosaic.Lib.Claim
public import Idealize.ShloMosaic.Lib.WritesUnit

@[expose] public section

set_option maxRecDepth 16384

noncomputable section

namespace Cert.OprojIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.OprojIdeal.Gen

variable {F : FTy → Type} [FloatOps F] [Named F]

variable (m : (ℓ : Loc nD τ sig) → Buf (Elt F) ℓ) (ρ : Dev nD → PrngReg)

/-! ## The rectangles the body reads and writes -/

abbrev rA : Rect S512x1792 := Rect.unit (s := S512x1792) ![0, 0] S512x1792.size inb_S512x1792_S512x1792_0_0
abbrev rS : Rect S512x128 := Rect.unit (s := S512x128) ![0, 0] S512x1.size inb_S512x128_S512x1_0_0
abbrev rL : Rect S1x3584 := Rect.unit (s := S1x3584) ![0, 0] S1x3584.size inb_S1x3584_S1x3584_0_0
abbrev rW0 : Rect S1792x3584 := Rect.unit (s := S1792x3584) ![0, 0] S1792x512.size inb_S1792x3584_S1792x512_0_0
abbrev rX0 : Rect S512x3584 := Rect.unit (s := S512x3584) ![0, 0] S512x512.size inb_S512x3584_S512x512_0_0
abbrev rC0 : Rect S1x3584 := Rect.unit (s := S1x3584) ![0, 0] S1x512.size inb_S1x3584_S1x512_0_0
abbrev rW1 : Rect S1792x3584 := Rect.unit (s := S1792x3584) ![0, 512] S1792x512.size inb_S1792x3584_S1792x512_0_512
abbrev rX1 : Rect S512x3584 := Rect.unit (s := S512x3584) ![0, 512] S512x512.size inb_S512x3584_S512x512_0_512
abbrev rC1 : Rect S1x3584 := Rect.unit (s := S1x3584) ![0, 512] S1x512.size inb_S1x3584_S1x512_0_512
abbrev rW2 : Rect S1792x3584 := Rect.unit (s := S1792x3584) ![0, 1024] S1792x512.size inb_S1792x3584_S1792x512_0_1024
abbrev rX2 : Rect S512x3584 := Rect.unit (s := S512x3584) ![0, 1024] S512x512.size inb_S512x3584_S512x512_0_1024
abbrev rC2 : Rect S1x3584 := Rect.unit (s := S1x3584) ![0, 1024] S1x512.size inb_S1x3584_S1x512_0_1024
abbrev rW3 : Rect S1792x3584 := Rect.unit (s := S1792x3584) ![0, 1536] S1792x512.size inb_S1792x3584_S1792x512_0_1536
abbrev rX3 : Rect S512x3584 := Rect.unit (s := S512x3584) ![0, 1536] S512x512.size inb_S512x3584_S512x512_0_1536
abbrev rC3 : Rect S1x3584 := Rect.unit (s := S1x3584) ![0, 1536] S1x512.size inb_S1x3584_S1x512_0_1536
abbrev rW4 : Rect S1792x3584 := Rect.unit (s := S1792x3584) ![0, 2048] S1792x512.size inb_S1792x3584_S1792x512_0_2048
abbrev rX4 : Rect S512x3584 := Rect.unit (s := S512x3584) ![0, 2048] S512x512.size inb_S512x3584_S512x512_0_2048
abbrev rC4 : Rect S1x3584 := Rect.unit (s := S1x3584) ![0, 2048] S1x512.size inb_S1x3584_S1x512_0_2048
abbrev rW5 : Rect S1792x3584 := Rect.unit (s := S1792x3584) ![0, 2560] S1792x512.size inb_S1792x3584_S1792x512_0_2560
abbrev rX5 : Rect S512x3584 := Rect.unit (s := S512x3584) ![0, 2560] S512x512.size inb_S512x3584_S512x512_0_2560
abbrev rC5 : Rect S1x3584 := Rect.unit (s := S1x3584) ![0, 2560] S1x512.size inb_S1x3584_S1x512_0_2560
abbrev rW6 : Rect S1792x3584 := Rect.unit (s := S1792x3584) ![0, 3072] S1792x512.size inb_S1792x3584_S1792x512_0_3072
abbrev rX6 : Rect S512x3584 := Rect.unit (s := S512x3584) ![0, 3072] S512x512.size inb_S512x3584_S512x512_0_3072
abbrev rC6 : Rect S1x3584 := Rect.unit (s := S1x3584) ![0, 3072] S1x512.size inb_S1x3584_S1x512_0_3072
abbrev rG0 : Rect S512x3584 := Rect.unit (s := S512x3584) ![0, 0] S32x3584.size inb_S512x3584_S32x3584_0_0
abbrev rT0 : Rect S512x128 := Rect.unit (s := S512x128) ![0, 0] S32x128.size inb_S512x128_S32x128_0_0
abbrev rG1 : Rect S512x3584 := Rect.unit (s := S512x3584) ![32, 0] S32x3584.size inb_S512x3584_S32x3584_32_0
abbrev rT1 : Rect S512x128 := Rect.unit (s := S512x128) ![32, 0] S32x128.size inb_S512x128_S32x128_32_0
abbrev rG2 : Rect S512x3584 := Rect.unit (s := S512x3584) ![64, 0] S32x3584.size inb_S512x3584_S32x3584_64_0
abbrev rT2 : Rect S512x128 := Rect.unit (s := S512x128) ![64, 0] S32x128.size inb_S512x128_S32x128_64_0
abbrev rG3 : Rect S512x3584 := Rect.unit (s := S512x3584) ![96, 0] S32x3584.size inb_S512x3584_S32x3584_96_0
abbrev rT3 : Rect S512x128 := Rect.unit (s := S512x128) ![96, 0] S32x128.size inb_S512x128_S32x128_96_0
abbrev rG4 : Rect S512x3584 := Rect.unit (s := S512x3584) ![128, 0] S32x3584.size inb_S512x3584_S32x3584_128_0
abbrev rT4 : Rect S512x128 := Rect.unit (s := S512x128) ![128, 0] S32x128.size inb_S512x128_S32x128_128_0
abbrev rG5 : Rect S512x3584 := Rect.unit (s := S512x3584) ![160, 0] S32x3584.size inb_S512x3584_S32x3584_160_0
abbrev rT5 : Rect S512x128 := Rect.unit (s := S512x128) ![160, 0] S32x128.size inb_S512x128_S32x128_160_0
abbrev rG6 : Rect S512x3584 := Rect.unit (s := S512x3584) ![192, 0] S32x3584.size inb_S512x3584_S32x3584_192_0
abbrev rT6 : Rect S512x128 := Rect.unit (s := S512x128) ![192, 0] S32x128.size inb_S512x128_S32x128_192_0
abbrev rG7 : Rect S512x3584 := Rect.unit (s := S512x3584) ![224, 0] S32x3584.size inb_S512x3584_S32x3584_224_0
abbrev rT7 : Rect S512x128 := Rect.unit (s := S512x128) ![224, 0] S32x128.size inb_S512x128_S32x128_224_0
abbrev rG8 : Rect S512x3584 := Rect.unit (s := S512x3584) ![256, 0] S32x3584.size inb_S512x3584_S32x3584_256_0
abbrev rT8 : Rect S512x128 := Rect.unit (s := S512x128) ![256, 0] S32x128.size inb_S512x128_S32x128_256_0
abbrev rG9 : Rect S512x3584 := Rect.unit (s := S512x3584) ![288, 0] S32x3584.size inb_S512x3584_S32x3584_288_0
abbrev rT9 : Rect S512x128 := Rect.unit (s := S512x128) ![288, 0] S32x128.size inb_S512x128_S32x128_288_0
abbrev rG10 : Rect S512x3584 := Rect.unit (s := S512x3584) ![320, 0] S32x3584.size inb_S512x3584_S32x3584_320_0
abbrev rT10 : Rect S512x128 := Rect.unit (s := S512x128) ![320, 0] S32x128.size inb_S512x128_S32x128_320_0
abbrev rG11 : Rect S512x3584 := Rect.unit (s := S512x3584) ![352, 0] S32x3584.size inb_S512x3584_S32x3584_352_0
abbrev rT11 : Rect S512x128 := Rect.unit (s := S512x128) ![352, 0] S32x128.size inb_S512x128_S32x128_352_0
abbrev rG12 : Rect S512x3584 := Rect.unit (s := S512x3584) ![384, 0] S32x3584.size inb_S512x3584_S32x3584_384_0
abbrev rT12 : Rect S512x128 := Rect.unit (s := S512x128) ![384, 0] S32x128.size inb_S512x128_S32x128_384_0
abbrev rG13 : Rect S512x3584 := Rect.unit (s := S512x3584) ![416, 0] S32x3584.size inb_S512x3584_S32x3584_416_0
abbrev rT13 : Rect S512x128 := Rect.unit (s := S512x128) ![416, 0] S32x128.size inb_S512x128_S32x128_416_0
abbrev rG14 : Rect S512x3584 := Rect.unit (s := S512x3584) ![448, 0] S32x3584.size inb_S512x3584_S32x3584_448_0
abbrev rT14 : Rect S512x128 := Rect.unit (s := S512x128) ![448, 0] S32x128.size inb_S512x128_S32x128_448_0
abbrev rG15 : Rect S512x3584 := Rect.unit (s := S512x3584) ![480, 0] S32x3584.size inb_S512x3584_S32x3584_480_0
abbrev rT15 : Rect S512x128 := Rect.unit (s := S512x128) ![480, 0] S32x128.size inb_S512x128_S32x128_480_0

/-! ## What the body leaves -/

/-- The seven column chunks of the residual sum, last first. -/
def hPieces (x0 : Vec F S512x1792 .fp8e4m3) (x1 : Vec F S512x128 .f32) (x2 : Vec F S512x3584 .bf16) (x3 : Vec F S1792x3584 .fp8e4m3) (x4 : Vec F S1x3584 .f32) : List (View.Piece (Elt F) S512x3584 .f32) :=
  [⟨rX6, k0_pay1 (View.ld x0 rA) (View.ld x3 rW6) (View.ld x2 rX6) (View.ld x1 rS) (View.ld x4 rC6)⟩,
    ⟨rX5, k0_pay1 (View.ld x0 rA) (View.ld x3 rW5) (View.ld x2 rX5) (View.ld x1 rS) (View.ld x4 rC5)⟩,
    ⟨rX4, k0_pay1 (View.ld x0 rA) (View.ld x3 rW4) (View.ld x2 rX4) (View.ld x1 rS) (View.ld x4 rC4)⟩,
    ⟨rX3, k0_pay1 (View.ld x0 rA) (View.ld x3 rW3) (View.ld x2 rX3) (View.ld x1 rS) (View.ld x4 rC3)⟩,
    ⟨rX2, k0_pay1 (View.ld x0 rA) (View.ld x3 rW2) (View.ld x2 rX2) (View.ld x1 rS) (View.ld x4 rC2)⟩,
    ⟨rX1, k0_pay1 (View.ld x0 rA) (View.ld x3 rW1) (View.ld x2 rX1) (View.ld x1 rS) (View.ld x4 rC1)⟩,
    ⟨rX0, k0_pay1 (View.ld x0 rA) (View.ld x3 rW0) (View.ld x2 rX0) (View.ld x1 rS) (View.ld x4 rC0)⟩]

/-- The residual sum of a block of rows. -/
def hOut (x0 : Vec F S512x1792 .fp8e4m3) (x1 : Vec F S512x128 .f32) (x2 : Vec F S512x3584 .bf16) (x3 : Vec F S1792x3584 .fp8e4m3) (x4 : Vec F S1x3584 .f32) : Vec F S512x3584 .f32 :=
  View.canon (hPieces x0 x1 x2 x3 x4)

/-- The sixteen row groups of codes, last first, from what `q` reads of the residual sum. -/
def cPieces (x5 : Vec F S1x3584 .f32) (q : (r : Rect S512x3584) → r.shape.Idx → Elt F .f32) : List (View.Piece (Elt F) S512x3584 .fp8e4m3) :=
  [⟨rG15, k0_pay15 (View.ld x5 rL) (q rG15)⟩,
    ⟨rG14, k0_pay15 (View.ld x5 rL) (q rG14)⟩,
    ⟨rG13, k0_pay15 (View.ld x5 rL) (q rG13)⟩,
    ⟨rG12, k0_pay15 (View.ld x5 rL) (q rG12)⟩,
    ⟨rG11, k0_pay15 (View.ld x5 rL) (q rG11)⟩,
    ⟨rG10, k0_pay15 (View.ld x5 rL) (q rG10)⟩,
    ⟨rG9, k0_pay15 (View.ld x5 rL) (q rG9)⟩,
    ⟨rG8, k0_pay15 (View.ld x5 rL) (q rG8)⟩,
    ⟨rG7, k0_pay15 (View.ld x5 rL) (q rG7)⟩,
    ⟨rG6, k0_pay15 (View.ld x5 rL) (q rG6)⟩,
    ⟨rG5, k0_pay15 (View.ld x5 rL) (q rG5)⟩,
    ⟨rG4, k0_pay15 (View.ld x5 rL) (q rG4)⟩,
    ⟨rG3, k0_pay15 (View.ld x5 rL) (q rG3)⟩,
    ⟨rG2, k0_pay15 (View.ld x5 rL) (q rG2)⟩,
    ⟨rG1, k0_pay15 (View.ld x5 rL) (q rG1)⟩,
    ⟨rG0, k0_pay15 (View.ld x5 rL) (q rG0)⟩]

/-- The codes of a block of rows. -/
def cOut (x5 : Vec F S1x3584 .f32) (h : Vec F S512x3584 .f32) : Vec F S512x3584 .fp8e4m3 := View.canon (cPieces x5 (View.ld h))

/-- The sixteen row groups of scales, last first, each scale along a whole row of 128. -/
def sPieces (x5 : Vec F S1x3584 .f32) (q : (r : Rect S512x3584) → r.shape.Idx → Elt F .f32) : List (View.Piece (Elt F) S512x128 .f32) :=
  [⟨rT15, k0_pay16 (k0_pay14 (View.ld x5 rL) (q rG15))⟩,
    ⟨rT14, k0_pay16 (k0_pay14 (View.ld x5 rL) (q rG14))⟩,
    ⟨rT13, k0_pay16 (k0_pay14 (View.ld x5 rL) (q rG13))⟩,
    ⟨rT12, k0_pay16 (k0_pay14 (View.ld x5 rL) (q rG12))⟩,
    ⟨rT11, k0_pay16 (k0_pay14 (View.ld x5 rL) (q rG11))⟩,
    ⟨rT10, k0_pay16 (k0_pay14 (View.ld x5 rL) (q rG10))⟩,
    ⟨rT9, k0_pay16 (k0_pay14 (View.ld x5 rL) (q rG9))⟩,
    ⟨rT8, k0_pay16 (k0_pay14 (View.ld x5 rL) (q rG8))⟩,
    ⟨rT7, k0_pay16 (k0_pay14 (View.ld x5 rL) (q rG7))⟩,
    ⟨rT6, k0_pay16 (k0_pay14 (View.ld x5 rL) (q rG6))⟩,
    ⟨rT5, k0_pay16 (k0_pay14 (View.ld x5 rL) (q rG5))⟩,
    ⟨rT4, k0_pay16 (k0_pay14 (View.ld x5 rL) (q rG4))⟩,
    ⟨rT3, k0_pay16 (k0_pay14 (View.ld x5 rL) (q rG3))⟩,
    ⟨rT2, k0_pay16 (k0_pay14 (View.ld x5 rL) (q rG2))⟩,
    ⟨rT1, k0_pay16 (k0_pay14 (View.ld x5 rL) (q rG1))⟩,
    ⟨rT0, k0_pay16 (k0_pay14 (View.ld x5 rL) (q rG0))⟩]

/-- The scales of a block of rows. -/
def sOut (x5 : Vec F S1x3584 .f32) (h : Vec F S512x3584 .f32) : Vec F S512x128 .f32 := View.canon (sPieces x5 (View.ld h))

/-- The scales of a block of rows, as one row of 512. -/
def sRow (x5 : Vec F S1x3584 .f32) (h : Vec F S512x3584 .f32) : Vec F S1x512 .f32 := k0_pay118 (View.ld (sOut x5 h) rS)

/-- Point `j` puts the row `r` at its 512 entries of the table of scales and keeps every other entry of it. -/
def Put (j : ℕ) (r : Vec F S1x512 .f32) (Y X : Vec F S4x4096 .f32) : Prop :=
  (∀ (y : S4x4096.Idx) (x : S1x512.Idx), (y (0 : Fin 2)).val = j / 8 → (y (1 : Fin 2)).val = j % 8 * 512 + (x (1 : Fin 2)).val → X y = r x)
    ∧ ∀ y : S4x4096.Idx, (y (0 : Fin 2)).val * 8 + (y (1 : Fin 2)).val / 512 ≠ j → X y = Y y

theorem hCover (p0 p1 p2 p3 p4 p5 p6 : Vec F S512x512 .f32) (y : S512x3584.Idx) :
    ∃ pc ∈ ([⟨rX6, p6⟩, ⟨rX5, p5⟩, ⟨rX4, p4⟩, ⟨rX3, p3⟩, ⟨rX2, p2⟩, ⟨rX1, p1⟩, ⟨rX0, p0⟩] : List (View.Piece (Elt F) S512x3584 .f32)), y ∈ pc.1.set :=
  View.cover_of_tiled [⟨rX6, p6⟩, ⟨rX5, p5⟩, ⟨rX4, p4⟩, ⟨rX3, p3⟩, ⟨rX2, p2⟩, ⟨rX1, p1⟩, ⟨rX0, p0⟩] S512x512.size (by rfl) y

theorem hPieces_cover (x0 : Vec F S512x1792 .fp8e4m3) (x1 : Vec F S512x128 .f32) (x2 : Vec F S512x3584 .bf16) (x3 : Vec F S1792x3584 .fp8e4m3) (x4 : Vec F S1x3584 .f32) (y : S512x3584.Idx) :
    ∃ pc ∈ hPieces x0 x1 x2 x3 x4, y ∈ pc.1.set := hCover _ _ _ _ _ _ _ y

theorem cCover (p0 p1 p2 p3 p4 p5 p6 p7 p8 p9 p10 p11 p12 p13 p14 p15 : Vec F S32x3584 .fp8e4m3) (y : S512x3584.Idx) :
    ∃ pc ∈ ([⟨rG15, p15⟩, ⟨rG14, p14⟩, ⟨rG13, p13⟩, ⟨rG12, p12⟩, ⟨rG11, p11⟩, ⟨rG10, p10⟩, ⟨rG9, p9⟩, ⟨rG8, p8⟩, ⟨rG7, p7⟩, ⟨rG6, p6⟩, ⟨rG5, p5⟩, ⟨rG4, p4⟩, ⟨rG3, p3⟩, ⟨rG2, p2⟩, ⟨rG1, p1⟩, ⟨rG0, p0⟩] : List (View.Piece (Elt F) S512x3584 .fp8e4m3)), y ∈ pc.1.set :=
  View.cover_of_tiled [⟨rG15, p15⟩, ⟨rG14, p14⟩, ⟨rG13, p13⟩, ⟨rG12, p12⟩, ⟨rG11, p11⟩, ⟨rG10, p10⟩, ⟨rG9, p9⟩, ⟨rG8, p8⟩, ⟨rG7, p7⟩, ⟨rG6, p6⟩, ⟨rG5, p5⟩, ⟨rG4, p4⟩, ⟨rG3, p3⟩, ⟨rG2, p2⟩, ⟨rG1, p1⟩, ⟨rG0, p0⟩] S32x3584.size (by rfl) y

theorem cPieces_cover (x5 : Vec F S1x3584 .f32) (h : Vec F S512x3584 .f32) (y : S512x3584.Idx) : ∃ pc ∈ cPieces x5 (View.ld h), y ∈ pc.1.set :=
  cCover _ _ _ _ _ _ _ _ _ _ _ _ _ _ _ _ y

theorem sCover (p0 p1 p2 p3 p4 p5 p6 p7 p8 p9 p10 p11 p12 p13 p14 p15 : Vec F S32x128 .f32) (y : S512x128.Idx) :
    ∃ pc ∈ ([⟨rT15, p15⟩, ⟨rT14, p14⟩, ⟨rT13, p13⟩, ⟨rT12, p12⟩, ⟨rT11, p11⟩, ⟨rT10, p10⟩, ⟨rT9, p9⟩, ⟨rT8, p8⟩, ⟨rT7, p7⟩, ⟨rT6, p6⟩, ⟨rT5, p5⟩, ⟨rT4, p4⟩, ⟨rT3, p3⟩, ⟨rT2, p2⟩, ⟨rT1, p1⟩, ⟨rT0, p0⟩] : List (View.Piece (Elt F) S512x128 .f32)), y ∈ pc.1.set :=
  View.cover_of_tiled [⟨rT15, p15⟩, ⟨rT14, p14⟩, ⟨rT13, p13⟩, ⟨rT12, p12⟩, ⟨rT11, p11⟩, ⟨rT10, p10⟩, ⟨rT9, p9⟩, ⟨rT8, p8⟩, ⟨rT7, p7⟩, ⟨rT6, p6⟩, ⟨rT5, p5⟩, ⟨rT4, p4⟩, ⟨rT3, p3⟩, ⟨rT2, p2⟩, ⟨rT1, p1⟩, ⟨rT0, p0⟩] S32x128.size (by rfl) y

theorem sPieces_cover (x5 : Vec F S1x3584 .f32) (h : Vec F S512x3584 .f32) (y : S512x128.Idx) : ∃ pc ∈ sPieces x5 (View.ld h), y ∈ pc.1.set :=
  sCover _ _ _ _ _ _ _ _ _ _ _ _ _ _ _ _ y

/-! ## The four conditions -/

theorem cond1_iff : ∀ i : grid0.Coords, k0_cond1 i = 1#1 ↔ (i 0).val / 8 = 0 := by decide +kernel
theorem off1_eq : ∀ i : grid0.Coords, k0_cond1 i = 1#1 → k0_off1 i = ![0, (i 0).val % 8 * 512] := by decide +kernel
theorem cond2_iff : ∀ i : grid0.Coords, k0_cond2 i = 1#1 ↔ (i 0).val / 8 = 1 := by decide +kernel
theorem off2_eq : ∀ i : grid0.Coords, k0_cond2 i = 1#1 → k0_off2 i = ![1, (i 0).val % 8 * 512] := by decide +kernel
theorem cond3_iff : ∀ i : grid0.Coords, k0_cond3 i = 1#1 ↔ (i 0).val / 8 = 2 := by decide +kernel
theorem off3_eq : ∀ i : grid0.Coords, k0_cond3 i = 1#1 → k0_off3 i = ![2, (i 0).val % 8 * 512] := by decide +kernel
theorem cond4_iff : ∀ i : grid0.Coords, k0_cond4 i = 1#1 ↔ (i 0).val / 8 = 3 := by decide +kernel
theorem off4_eq : ∀ i : grid0.Coords, k0_cond4 i = 1#1 → k0_off4 i = ![3, (i 0).val % 8 * 512] := by decide +kernel

/-- One store of a row at row `k`, column `q * 512` of the table is what point `k * 8 + q` puts there. -/
theorem put_of_store {κ : Kind} {sp : Space} (v : View sig κ sp S4x4096 .f32) (f : v.ty.Contents (Elt F)) {off : Fin 2 → ℕ}
    (inb : ∀ a, off a + S1x512.size a ≤ S4x4096.size a) (w : Vec F S1x512 .f32) (j : ℕ) (heq : off = ![j / 8, j % 8 * 512]) :
    Put j w (v.read (Elt F) f) (v.read (Elt F) (v.writes (Elt F) f [⟨Rect.unit (s := S4x4096) off S1x512.size inb, w⟩])) := by
  refine ⟨fun y x h0 h1 => View.read_writes_cons_unit_of_mem v f inb w [] y x heq (Fin.forall_fin_two.mpr ⟨?_, ?_⟩), fun y hy => ?_⟩
  · have hx : (x (0 : Fin 2)).val < 1 := (x (0 : Fin 2)).isLt
    show (y (0 : Fin 2)).val = j / 8 + (x (0 : Fin 2)).val
    omega
  · exact h1
  · by_cases h0 : (y (0 : Fin 2)).val = j / 8
    · refine View.read_writes_cons_unit_of_not_mem v f inb w [] y heq (1 : Fin 2) ?_
      show (y (1 : Fin 2)).val < j % 8 * 512 ∨ j % 8 * 512 + 512 ≤ (y (1 : Fin 2)).val
      omega
    · refine View.read_writes_cons_unit_of_not_mem v f inb w [] y heq (0 : Fin 2) ?_
      show (y (0 : Fin 2)).val < j / 8 ∨ j / 8 + 1 ≤ (y (0 : Fin 2)).val
      omega

/-- The four guarded stores, of which exactly one happens, put the row where point `i` puts it. -/
theorem put_cases {κ : Kind} {sp : Space} (i : grid0.Coords) (v : View sig κ sp S4x4096 .f32) (f : v.ty.Contents (Elt F)) (w : Vec F S1x512 .f32) :
    Put (i 0).val w (v.read (Elt F) f) (v.read (Elt F)
      (if h4 : k0_cond4 i = 1#1 then v.writes (Elt F)
        (if h3 : k0_cond3 i = 1#1 then v.writes (Elt F)
          (if h2 : k0_cond2 i = 1#1 then v.writes (Elt F)
            (if h1 : k0_cond1 i = 1#1 then v.writes (Elt F) f [⟨Rect.unit (s := S4x4096) (k0_off1 i) S1x512.size (k0_off1_inb i h1), w⟩] else f)
            [⟨Rect.unit (s := S4x4096) (k0_off2 i) S1x512.size (k0_off2_inb i h2), w⟩]
          else (if h1 : k0_cond1 i = 1#1 then v.writes (Elt F) f [⟨Rect.unit (s := S4x4096) (k0_off1 i) S1x512.size (k0_off1_inb i h1), w⟩] else f))
          [⟨Rect.unit (s := S4x4096) (k0_off3 i) S1x512.size (k0_off3_inb i h3), w⟩]
        else (if h2 : k0_cond2 i = 1#1 then v.writes (Elt F)
            (if h1 : k0_cond1 i = 1#1 then v.writes (Elt F) f [⟨Rect.unit (s := S4x4096) (k0_off1 i) S1x512.size (k0_off1_inb i h1), w⟩] else f)
            [⟨Rect.unit (s := S4x4096) (k0_off2 i) S1x512.size (k0_off2_inb i h2), w⟩]
          else (if h1 : k0_cond1 i = 1#1 then v.writes (Elt F) f [⟨Rect.unit (s := S4x4096) (k0_off1 i) S1x512.size (k0_off1_inb i h1), w⟩] else f)))
        [⟨Rect.unit (s := S4x4096) (k0_off4 i) S1x512.size (k0_off4_inb i h4), w⟩]
      else (if h3 : k0_cond3 i = 1#1 then v.writes (Elt F)
          (if h2 : k0_cond2 i = 1#1 then v.writes (Elt F)
            (if h1 : k0_cond1 i = 1#1 then v.writes (Elt F) f [⟨Rect.unit (s := S4x4096) (k0_off1 i) S1x512.size (k0_off1_inb i h1), w⟩] else f)
            [⟨Rect.unit (s := S4x4096) (k0_off2 i) S1x512.size (k0_off2_inb i h2), w⟩]
          else (if h1 : k0_cond1 i = 1#1 then v.writes (Elt F) f [⟨Rect.unit (s := S4x4096) (k0_off1 i) S1x512.size (k0_off1_inb i h1), w⟩] else f))
          [⟨Rect.unit (s := S4x4096) (k0_off3 i) S1x512.size (k0_off3_inb i h3), w⟩]
        else (if h2 : k0_cond2 i = 1#1 then v.writes (Elt F)
            (if h1 : k0_cond1 i = 1#1 then v.writes (Elt F) f [⟨Rect.unit (s := S4x4096) (k0_off1 i) S1x512.size (k0_off1_inb i h1), w⟩] else f)
            [⟨Rect.unit (s := S4x4096) (k0_off2 i) S1x512.size (k0_off2_inb i h2), w⟩]
          else (if h1 : k0_cond1 i = 1#1 then v.writes (Elt F) f [⟨Rect.unit (s := S4x4096) (k0_off1 i) S1x512.size (k0_off1_inb i h1), w⟩] else f))))) := by
  have hi : (i 0).val < 32 := (i 0).isLt
  have n1 := cond1_iff i; have n2 := cond2_iff i; have n3 := cond3_iff i; have n4 := cond4_iff i
  by_cases h1 : k0_cond1 i = 1#1
  · have a := n1.mp h1
    rw [dif_neg (fun h => by have := n4.mp h; omega), dif_neg (fun h => by have := n3.mp h; omega), dif_neg (fun h => by have := n2.mp h; omega), dif_pos h1]
    exact put_of_store v f _ w _ (by rw [off1_eq i h1, a])
  by_cases h2 : k0_cond2 i = 1#1
  · have a := n2.mp h2
    rw [dif_neg (fun h => by have := n4.mp h; omega), dif_neg (fun h => by have := n3.mp h; omega), dif_pos h2, dif_neg h1]
    exact put_of_store v f _ w _ (by rw [off2_eq i h2, a])
  by_cases h3 : k0_cond3 i = 1#1
  · have a := n3.mp h3
    rw [dif_neg (fun h => by have := n4.mp h; omega), dif_pos h3, dif_neg h2, dif_neg h1]
    exact put_of_store v f _ w _ (by rw [off3_eq i h3, a])
  · have h4 : k0_cond4 i = 1#1 := n4.mpr (by
      have b1 := mt n1.mpr h1; have b2 := mt n2.mpr h2; have b3 := mt n3.mpr h3; omega)
    have a := n4.mp h4
    rw [dif_pos h4, dif_neg h3, dif_neg h2, dif_neg h1]
    exact put_of_store v f _ w _ (by rw [off4_eq i h4, a])

/-! ## The body's triple -/

set_option maxHeartbeats 8000000 in
/-- The body on whole staging buffers, the inputs' at read contents and the table of scales at `Y`: it leaves the residual sum,
    the codes and the scales of its rows, and puts the scales' row into the table. -/
theorem run (c : Dev nD) (E : Set ℕ) (i : grid0.Coords) (arg1 : Memref sig .tc .vmem S512x1792 .fp8e4m3) (harg1 : arg1.IsWhole) (arg2 : Memref sig .tc .vmem S512x128 .f32) (harg2 : arg2.IsWhole) (arg3 : Memref sig .tc .vmem S512x3584 .bf16) (harg3 : arg3.IsWhole) (arg4 : Memref sig .tc .vmem S1792x3584 .fp8e4m3) (harg4 : arg4.IsWhole) (arg5 : Memref sig .tc .vmem S1x3584 .f32) (harg5 : arg5.IsWhole) (arg6 : Memref sig .tc .vmem S1x3584 .f32) (harg6 : arg6.IsWhole) (arg7 : Memref sig .tc .vmem S512x3584 .f32) (harg7 : arg7.IsWhole) (arg8 : Memref sig .tc .vmem S512x3584 .fp8e4m3) (harg8 : arg8.IsWhole) (arg9 : Memref sig .tc .vmem S4x4096 .f32) (harg9 : arg9.IsWhole) (arg10 : Memref sig .tc .vmem S512x128 .f32) (harg10 : arg10.IsWhole)
    (x0 : Vec F S512x1792 .fp8e4m3) (x1 : Vec F S512x128 .f32) (x2 : Vec F S512x3584 .bf16) (x3 : Vec F S1792x3584 .fp8e4m3) (x4 : Vec F S1x3584 .f32) (x5 : Vec F S1x3584 .f32) (Y : Vec F S4x4096 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare Y ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hOut x0 x1 x2 x3 x4) ∗ owns (c : Thread nD τ) arg8 fullShare (cOut x5 (hOut x0 x1 x2 x3 x4)) ∗ (∃ X, ⌜Put (i 0).val (sRow x5 (hOut x0 x1 x2 x3 x4)) Y X⌝ ∗ owns (c : Thread nD τ) arg9 fullShare X) ∗ owns (c : Thread nD τ) arg10 fullShare (sOut x5 (hOut x0 x1 x2 x3 x4))) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10) K := by
  simp only [cc0_oproj_eq_skeleton]; unfold cc0_oproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, Hk⟩
  subst hf0 hf1 hf2 hf3 hf4 hf5 hf8
  sl_exec
  sl_step
  iapply Hk
  have e6 : run.sl.H6_7 c arg1 arg2 arg3 arg4 arg5 f0 f1 f2 f3 f4 = hPieces (arg1.view.read (Elt F) f0) (arg2.view.read (Elt F) f1) (arg3.view.read (Elt F) f2) (arg4.view.read (Elt F) f3) (arg5.view.read (Elt F) f4) := rfl
  have el : (fun r : Rect S512x3584 => arg7.view.readCov (run.sl.H6_7 c arg1 arg2 arg3 arg4 arg5 f0 f1 f2 f3 f4) r.toLoadRect) = fun r => View.ld (hOut (arg1.view.read (Elt F) f0) (arg2.view.read (Elt F) f1) (arg3.view.read (Elt F) f2) (arg4.view.read (Elt F) f3) (arg5.view.read (Elt F) f4)) r := funext fun r => by
    rw [e6]; exact View.readCov_eq_canon_ld _ _ _ (hPieces_cover _ _ _ _ _)
  have e7 : run.sl.H7_16 c arg1 arg2 arg3 arg4 arg5 arg6 arg7 f0 f1 f2 f3 f4 f5 = cPieces (arg6.view.read (Elt F) f5) (View.ld (hOut (arg1.view.read (Elt F) f0) (arg2.view.read (Elt F) f1) (arg3.view.read (Elt F) f2) (arg4.view.read (Elt F) f3) (arg5.view.read (Elt F) f4))) :=
    (show _ = cPieces (arg6.view.read (Elt F) f5) (fun r : Rect S512x3584 => arg7.view.readCov (run.sl.H6_7 c arg1 arg2 arg3 arg4 arg5 f0 f1 f2 f3 f4) r.toLoadRect) from rfl).trans (congrArg (cPieces _) el)
  have e9 : run.sl.H9_16 c arg1 arg2 arg3 arg4 arg5 arg6 arg7 f0 f1 f2 f3 f4 f5 = sPieces (arg6.view.read (Elt F) f5) (View.ld (hOut (arg1.view.read (Elt F) f0) (arg2.view.read (Elt F) f1) (arg3.view.read (Elt F) f2) (arg4.view.read (Elt F) f3) (arg5.view.read (Elt F) f4))) :=
    (show _ = sPieces (arg6.view.read (Elt F) f5) (fun r : Rect S512x3584 => arg7.view.readCov (run.sl.H6_7 c arg1 arg2 arg3 arg4 arg5 f0 f1 f2 f3 f4) r.toLoadRect) from rfl).trans (congrArg (sPieces _) el)
  have ev : run.sl.v697 c arg1 arg2 arg3 arg4 arg5 arg6 arg7 arg10 f0 f1 f2 f3 f4 f5 = View.ld (sOut (arg6.view.read (Elt F) f5) (hOut (arg1.view.read (Elt F) f0) (arg2.view.read (Elt F) f1) (arg3.view.read (Elt F) f2) (arg4.view.read (Elt F) f3) (arg5.view.read (Elt F) f4))) rS := by
    show arg10.view.readCov (run.sl.H9_16 c arg1 arg2 arg3 arg4 arg5 arg6 arg7 f0 f1 f2 f3 f4 f5) rS.toLoadRect = _
    rw [e9]; exact View.readCov_eq_canon_ld _ _ _ (sPieces_cover _ _)
  have er : run.sl.r_33 c arg1 arg2 arg3 arg4 arg5 arg6 arg7 arg10 f0 f1 f2 f3 f4 f5 = sRow (arg6.view.read (Elt F) f5) (hOut (arg1.view.read (Elt F) f0) (arg2.view.read (Elt F) f1) (arg3.view.read (Elt F) f2) (arg4.view.read (Elt F) f3) (arg5.view.read (Elt F) f4)) :=
    (show _ = k0_pay118 (run.sl.v697 c arg1 arg2 arg3 arg4 arg5 arg6 arg7 arg10 f0 f1 f2 f3 f4 f5) from rfl).trans (congrArg k0_pay118 ev)
  rw [e6, e7, e9, er, ev]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro; exact View.read_writes_eq_canon _ _ _ (hPieces_cover _ _ _ _ _)
  isplitl [H7]
  · iexists _; isplitr
    swap; · iexact H7
    ipureintro; exact View.read_writes_eq_canon _ _ _ (cPieces_cover _ _)
  isplitl [H8]
  · iexists _; isplitr
    swap
    · iexists _; isplitr
      swap; · iexact H8
      ipureintro; rfl
    ipureintro
    exact put_cases i arg9.view f8 (sRow (arg6.view.read (Elt F) f5) (hOut (arg1.view.read (Elt F) f0) (arg2.view.read (Elt F) f1) (arg3.view.read (Elt F) f2) (arg4.view.read (Elt F) f3) (arg5.view.read (Elt F) f4)))
  iexists _; isplitr
  swap; · iexact H9
  ipureintro; exact View.read_writes_eq_canon _ _ _ (sPieces_cover _ _)

end Cert.OprojIdeal.Hand

end
-- ==== Proof.OprojI.Run.lean ====
/- The run of the output-projection call (`OprojIdeal`): the proof data point by point, the body's obligation, and the frame claim. -/
module

public import proofs.«01_k».proof.Proof.OprojI.Body
public import proofs.«01_k».proof.Proof.Gen.OprojIdeal.Launch
public import Idealize.ShloMosaic.Lib.Pipeline.DatRel
public import Idealize.ShloMosaic.Lib.Pipeline.ArrRel
public import Idealize.ShloMosaic.Lib.Claim

@[expose] public section

set_option maxRecDepth 16384

noncomputable section

namespace Cert.OprojIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.OprojIdeal.Gen

variable {F : FTy → Type} [FloatOps F] [Named F]

variable (m : (ℓ : Loc nD τ sig) → Buf (Elt F) ℓ) (ρ : Dev nD → PrngReg)

/-! ## The proof data -/

/-- The rows' residual sum at a point, from the point's blocks. -/
def hAt (c : Dev nD) (t : Fin cfg0.N) : Vec F S512x3584 .f32 := hOut (iblk m c 0 t) (iblk m c 1 t) (iblk m c 2 t) (iblk m c 3 t) (iblk m c 4 t)
/-- The rows' scales at a point, as the one row which the body puts into the table. -/
def rowAt (c : Dev nD) (t : Fin cfg0.N) : Vec F S1x512 .f32 := sRow (iblk m c 5 t) (hAt m c t)

/-- The table of scales after point `t`: every row put by a point up to `t` is in place. -/
def Table (c : Dev nD) (t : Fin cfg0.N) (X : Vec F S4x4096 .f32) : Prop :=
  ∀ (u : Fin cfg0.N) (y : S4x4096.Idx) (x : S1x512.Idx), u.val ≤ t.val → (y (0 : Fin 2)).val = u.val / 8 →
    (y (1 : Fin 2)).val = u.val % 8 * 512 + (x (1 : Fin 2)).val → X y = rowAt m c u x

/-- What the body leaves in each output window at point `t`. -/
def left (c : Dev nD) (w : Fin cfg0.W) (t : Fin cfg0.N) : ((cfg0.win w).block.Idx → Elt F (cfg0.win w).elt) → Prop :=
  match w with
  | ⟨6, _⟩ => fun X => X = hAt m c t
  | ⟨7, _⟩ => fun X => X = cOut (iblk m c 5 t) (hAt m c t)
  | ⟨8, _⟩ => fun X => Table m c t X
  | ⟨9, _⟩ => fun X => X = sOut (iblk m c 5 t) (hAt m c t)
  | _ => fun _ => True

/-- The proof data of the one pipeline: the arrays as the region finds them, every input's buffer at its block, the outputs'
    left to `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The output windows. -/
def outs : Fin cfg0.W → Bool := fun w => w.val == 6 || w.val == 7 || w.val == 8 || w.val == 9

/-- The proof data with the outputs held to `left`. -/
abbrev rdats (c : Dev nD) : RDat τ (Elt F) Unit ℕ (UR sig nD τ) ℕ cfg0 c := (dats m 0 c).toRRel outs (left m c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Point `t`'s coordinate is `t`. -/
theorem coord_eq : ∀ t : Fin cfg0.N, (grid0.coords t 0).val = t.val := by decide +kernel

/-- The table is not read from its array. -/
theorem nofetch : ∀ t : Fin cfg0.N, (cfg0.win 8).fetch t = false := by decide +kernel

/-- One point's row put into a table which the earlier points filled. -/
theorem Table.put {c : Dev nD} {t : Fin cfg0.N} {Y X : Vec F S4x4096 .f32}
    (hY : ∀ u : Fin cfg0.N, u.val + 1 = t.val → Table m c u Y) (hX : Put (grid0.coords t 0).val (rowAt m c t) Y X) : Table m c t X := by
  intro u y x hu h0 h1
  rw [coord_eq] at hX
  have hx : (x (1 : Fin 2)).val < 512 := (x (1 : Fin 2)).isLt
  by_cases e : u.val = t.val
  · have e' : u = t := Fin.ext e
    subst e'
    exact hX.1 y x h0 h1
  · have hlt : u.val < t.val := by omega
    rw [hX.2 y (by omega)]
    exact hY ⟨t.val - 1, by have := t.isLt; omega⟩ (by show t.val - 1 + 1 = t.val; omega) u y x (by show u.val ≤ t.val - 1; omega) h0 h1

/-- What the body may find in the table: the earlier points' rows. -/
theorem found {c : Dev nD} {t : Fin cfg0.N} {Y : Vec F S4x4096 .f32} (h : (rdats m c).Finds 8 t Y) :
    ∀ u : Fin cfg0.N, u.val + 1 = t.val → Table m c u Y := by
  intro u hu
  have hN : t.val < 32 := lt_of_lt_of_eq t.isLt N_0
  rcases (((rdats m c).finds_of_pos (nofetch t) (by omega) Y).mp h) with hf | hl
  · have := (flush0_8 _).mp hf
    have : (t.val - 1) % 32 = 31 := this
    omega
  · have e : (⟨t.val - 1, Nat.lt_of_le_of_lt (Nat.sub_le _ _) t.isLt⟩ : Fin cfg0.N) = u := Fin.ext (by show t.val - 1 = u.val; omega)
    rw [e] at hl
    exact (dats m 0 c).toRRel_leaves (fgt := outs) (Rl := left m c) (w := 8) rfl hl

/-! ## The body's obligation -/

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ Y, ⌜(rdats m c).Finds 6 t Y⌝ ∗ owns (c : Thread nD τ) (st0_6 t) fullShare Y) ∗ (∃ Y, ⌜(rdats m c).Finds 7 t Y⌝ ∗ owns (c : Thread nD τ) (st0_7 t) fullShare Y) ∗ (∃ Y, ⌜(rdats m c).Finds 8 t Y⌝ ∗ owns (c : Thread nD τ) (st0_8 t) fullShare Y) ∗ (∃ Y, ⌜(rdats m c).Finds 9 t Y⌝ ∗ owns (c : Thread nD τ) (st0_9 t) fullShare Y))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ (∃ X, ⌜left m c 6 t X⌝ ∗ owns (c : Thread nD τ) (st0_6 t) fullShare X) ∗ (∃ X, ⌜left m c 7 t X⌝ ∗ owns (c : Thread nD τ) (st0_7 t) fullShare X) ∗ (∃ X, ⌜left m c 8 t X⌝ ∗ owns (c : Thread nD τ) (st0_8 t) fullShare X) ∗ (∃ X, ⌜left m c 9 t X⌝ ∗ owns (c : Thread nD τ) (st0_9 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩, ⟨%Y9, %hY9, H9⟩⟩
  iapply (run c Set.univ (grid0.coords t) _ _ _ _ _ _ _ _ _ _ _ _ _ _ _ _ _ _ _ _ (iblk m c 0 t) (iblk m c 1 t) (iblk m c 2 t) (iblk m c 3 t) (iblk m c 4 t) (iblk m c 5 t) Y8 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  iintro ⟨H0, H1, H2, H3, H4, H5, H6, H7, ⟨%X8, %hX8, H8⟩, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; isplitr; swap; (· iexact H6); ipureintro; exact (rfl : hOut _ _ _ _ _ = hAt m c t)
  isplitl [H7]; · iexists _; isplitr; swap; (· iexact H7); ipureintro; exact (rfl : cOut _ _ = cOut (iblk m c 5 t) (hAt m c t))
  isplitl [H8]; · iexists _; isplitr; swap; (· iexact H8); ipureintro; exact Table.put m (found m hY8) hX8
  iexists _; isplitr; swap; (· iexact H9); ipureintro; exact (rfl : sOut _ _ = sOut (iblk m c 5 t) (hAt m c t))

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligationRel (dats (F := F) m 0 c) (defs₀ (F := F)) Variants.none () Set.univ outs (left m c) := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: every array of the pipeline at what `left` allows, every other buffer as found, every counter zero. -/
theorem run_main : θ_run defs (onTc (τ := τ) (main (F := F))) (s₀ m ρ) (fun r => (RDat.FramePost (cfgs 0) (rdats m) (V m)) r ∧ r.2.sem = fun _ => 0) :=
  RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The argument arrays end unchanged. -/
theorem args_of {r} (h : RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((RDat.FramePost.arr_in h c 0 rfl).trans ((A_eq m c 0).trans (V_main_arg0 m c))), ((RDat.FramePost.arr_in h c 1 rfl).trans ((A_eq m c 1).trans (V_main_arg1 m c))), ((RDat.FramePost.arr_in h c 2 rfl).trans ((A_eq m c 2).trans (V_main_arg2 m c))), ((RDat.FramePost.arr_in h c 3 rfl).trans ((A_eq m c 3).trans (V_main_arg3 m c))), ((RDat.FramePost.arr_in h c 4 rfl).trans ((A_eq m c 4).trans (V_main_arg4 m c))), ((RDat.FramePost.arr_in h c 5 rfl).trans ((A_eq m c 5).trans (V_main_arg5 m c)))⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m h.1, h.2⟩) (run_main m ρ)

end Cert.OprojIdeal.Hand

end
-- ==== Proof.OprojI.Norm.lean ====
/- The arithmetic of one row of the output projection's quantiser, over the extended reals: scaling by the reciprocal of the
   root mean square after the row's largest magnitude is taken gives the code and the scale of the quotient. -/
module

public import Idealize.ShloMosaic.Lib.Pointwise
public import Idealize.ShloMosaic.Lib.IdealHost
public import Idealize.ShloMosaic.Lib.Claim

@[expose] public section

set_option maxRecDepth 16384

noncomputable section

namespace Cert.Norm

open Idealize.ShloMosaic

/-- The constants, as reals. -/
theorem c448 : Ideal.ofBits .f32 1138753536#32 = ((448 : ℝ) : EReal) := by
  simp [Ideal.ofBits, Ideal.ieee, -EReal.coe_mul]; norm_num
theorem c3584 : Ideal.ofBits .f32 1163919360#32 = ((3584 : ℝ) : EReal) := by
  simp [Ideal.ofBits, Ideal.ieee, -EReal.coe_mul]; norm_num
theorem cbot : Ideal.ofBits .f32 4286578688#32 = (⊥ : EReal) := by
  simp [Ideal.ofBits, Ideal.ieee]
theorem ceps : ∃ e : ℝ, 0 < e ∧ Ideal.ofBits .f32 897988541#32 = (e : EReal) := by
  refine ⟨8796093 * (2 : ℝ) ^ (-43 : ℤ), by positivity, ?_⟩
  simp [Ideal.ofBits, Ideal.ieee, -EReal.coe_mul]

/-- A row's root mean square, from its elements and the reciprocal of their number. -/
def rms (k : EReal) (f : Fin 3584 → EReal) : EReal := Ideal.sqrt ((∑ x, f x * f x) * k + Ideal.ofBits .f32 897988541#32)

/-- The largest magnitude of a row. -/
def amp (u : Fin 3584 → EReal) : EReal := Finset.fold max (Ideal.ofBits .f32 4286578688#32) (fun x => (FloatOps.absf (F := Ideal) (φ := .f32) (u x) : EReal)) Finset.univ

/-- The scale of a row from its largest magnitude. -/
def scale (a : EReal) : EReal := if a = 0 then 1 else Ideal.div a (Ideal.ofBits .f32 1138753536#32)

/-- The clip to the codes' range. -/
def clip (x : EReal) : EReal := min (Ideal.ofBits .f32 1138753536#32) (max (Ideal.ofBits .f32 3286237184#32) x)

/-- A quotient by the root mean square is a product with a nonnegative real. -/
theorem div_rms {k : EReal} (hk : k = ((1 / 3584 : ℝ) : EReal)) (f : Fin 3584 → EReal) :
    ∃ p : ℝ, 0 ≤ p ∧ ∀ x : EReal, Ideal.div x (rms k f) = x * (p : EReal) := by
  have hS : 0 ≤ ∑ x, f x * f x := Finset.sum_nonneg fun x _ => by
    rcases le_total 0 (f x) with h | h
    · exact mul_nonneg h h
    · have h' : 0 ≤ -f x := EReal.neg_nonneg.mpr h
      have := mul_nonneg h' h'
      rwa [neg_mul_neg] at this
  obtain ⟨e, he, hb⟩ := ceps
  unfold rms
  rw [hb, hk]
  generalize (∑ x, f x * f x) = S at hS
  induction S using EReal.rec with
  | bot => exact absurd hS (by simp)
  | top =>
    refine ⟨0, le_refl _, fun x => ?_⟩
    rw [EReal.top_mul_coe_of_pos (by norm_num), EReal.top_add_coe]
    simp [Ideal.div]
  | coe s =>
    have hs : 0 ≤ s := by exact_mod_cast hS
    have hd : 0 < s * (1 / 3584) + e := by positivity
    refine ⟨(Real.sqrt (s * (1 / 3584) + e))⁻¹, by positivity, fun x => ?_⟩
    rw [← EReal.coe_mul, ← EReal.coe_add, Ideal.sqrt_coe, if_neg (not_lt.mpr hd.le), Ideal.div_coe (Real.sqrt_pos.mpr hd).ne', one_div]

/-- The magnitude of a product with a nonnegative real. -/
theorem absf_mul (u : EReal) {p : ℝ} (hp : 0 ≤ p) :
    (FloatOps.absf (F := Ideal) (φ := .f32) (u * (p : EReal)) : EReal) = (FloatOps.absf (F := Ideal) (φ := .f32) u : EReal) * (p : EReal) := by
  show max (u * (p : EReal)) (-(u * (p : EReal))) = max u (-u) * (p : EReal)
  have hm : Monotone fun x : EReal => x * (p : EReal) := fun a b h => mul_le_mul_of_nonneg_right h (by exact_mod_cast hp)
  rw [← EReal.neg_mul]
  exact (hm.map_max (a := u) (b := -u)).symm

/-- A fold of `max` from the least element is a supremum. -/
theorem fold_sup (g : Fin 3584 → EReal) : Finset.fold max ⊥ g Finset.univ = Finset.univ.sup g :=
  eq_of_forall_ge_iff fun c => by rw [Finset.fold_max_le, Finset.sup_le_iff]; simp

/-- A supremum of products with a nonnegative real. -/
theorem sup_mul (g : Fin 3584 → EReal) {p : ℝ} (hp : 0 ≤ p) :
    Finset.univ.sup (fun x => g x * (p : EReal)) = Finset.univ.sup g * (p : EReal) := by
  rcases hp.eq_or_lt with h | h
  · subst h
    simp only [EReal.coe_zero, mul_zero]
    exact Finset.sup_const ⟨0, Finset.mem_univ _⟩ _
  · have hm : Monotone fun x : EReal => x * (p : EReal) := fun a b h' => mul_le_mul_of_nonneg_right h' (by exact_mod_cast hp)
    exact (Finset.comp_sup_eq_sup_comp_of_is_total (fun x : EReal => x * (p : EReal)) hm (EReal.bot_mul_coe_of_pos h)).symm

/-- The largest magnitude of the products with a nonnegative real. -/
theorem amp_mul (u : Fin 3584 → EReal) {p : ℝ} (hp : 0 ≤ p) : amp (fun x => u x * (p : EReal)) = amp u * (p : EReal) := by
  unfold amp
  rw [cbot, fold_sup, fold_sup, ← sup_mul _ hp]
  exact congrArg _ (funext fun x => absf_mul _ hp)

/-- A scale is not zero. -/
theorem scale_ne_zero (a : EReal) : scale a ≠ 0 := by
  unfold scale
  split
  · exact one_ne_zero
  · next h =>
    rw [c448, Ideal.div_coe (by norm_num)]
    exact mul_ne_zero h (by norm_num)

/-- The largest magnitude, taken before or after the normalisation. -/
theorem amp_eq {k : EReal} (hk : k = ((1 / 3584 : ℝ) : EReal)) (f l : Fin 3584 → EReal) :
    amp (fun x => f x * l x) * Ideal.div 1 (rms k f) = amp (fun x => Ideal.div (f x * l x) (rms k f)) := by
  obtain ⟨p, hp, h⟩ := div_rms hk f
  simp only [h]
  rw [one_mul, amp_mul _ hp]

/-- The code's argument, normalised in one product or in two quotients. -/
theorem code_eq {k : EReal} (hk : k = ((1 / 3584 : ℝ) : EReal)) (f : Fin 3584 → EReal) (u a : EReal) :
    u * Ideal.div (Ideal.div 1 (rms k f)) (scale a) = Ideal.div (Ideal.div u (rms k f)) (scale a) := by
  obtain ⟨p, hp, h⟩ := div_rms hk f
  simp only [h]
  unfold Ideal.div
  rw [if_neg (scale_ne_zero a), if_neg (scale_ne_zero a), one_mul, mul_assoc]

/-- The reference's root mean square, which divides by the number. -/
theorem rms_div (f : Fin 3584 → EReal) :
    Ideal.sqrt (Ideal.div (∑ x, f x * f x) (Ideal.ofBits .f32 1163919360#32) + Ideal.ofBits .f32 897988541#32) = rms ((1 / 3584 : ℝ) : EReal) f := by
  unfold rms
  rw [c3584, Ideal.div_coe (by norm_num)]

/-- The scale of a normalised row. -/
def scaleOf (f l : Fin 3584 → EReal) : EReal := scale (amp fun x => Ideal.div (f x * l x) (rms ((1 / 3584 : ℝ) : EReal) f))

/-- The code of a normalised row at a column. -/
def codeOf (f l : Fin 3584 → EReal) (j : Fin 3584) : EReal :=
  clip (Ideal.div (Ideal.div (f j * l j) (rms ((1 / 3584 : ℝ) : EReal) f)) (scaleOf f l))

/-- The scale with the normalisation taken after the largest magnitude. -/
theorem scaleOf_eq {k : EReal} (hk : k = ((1 / 3584 : ℝ) : EReal)) (f l : Fin 3584 → EReal) :
    scale (amp (fun x => f x * l x) * Ideal.div 1 (rms k f)) = scaleOf f l := by
  rw [amp_eq hk, hk]; rfl

/-- The code with one factor for the normalisation and the scale. -/
theorem codeOf_eq {k : EReal} (hk : k = ((1 / 3584 : ℝ) : EReal)) (f l : Fin 3584 → EReal) (j : Fin 3584) :
    clip (f j * l j * Ideal.div (Ideal.div 1 (rms k f)) (scaleOf f l)) = codeOf f l j := by
  unfold codeOf scaleOf
  rw [code_eq hk, hk]

end Cert.Norm
-- ==== Proof.OprojI.Row.lean ====
/- One row of the output projection's blocks: the body's scale and codes are those of the normalised row. -/
module

public import proofs.«01_k».proof.Proof.OprojI.Run
public import proofs.«01_k».proof.Proof.OprojI.Norm
public import Idealize.ShloMosaic.Lib.Pointwise
public import Idealize.ShloMosaic.Lib.Pipeline.ValueKit

@[expose] public section

set_option maxRecDepth 16384

noncomputable section

namespace Cert.OprojIdeal.Oproj

open Idealize.ShloMosaic Idealize.ShloMosaic.TcCoe Idealize.SL.Sem
open Cert.OprojIdeal Cert.OprojIdeal.Gen Cert.OprojIdeal.Hand
open Cert.Norm

/-- The named reciprocal. -/
theorem inv_d : (Named.named (F := Ideal) (φ := .f32) κ "inv_d" 965888293#32 : EReal) = ((1 / 3584 : ℝ) : EReal) :=
  IdealRules.named_const.ideal_named_scalar _ _ _ _ rfl

/-- The scale of a row of 32. -/
theorem scale_apply (l : Vec Ideal S1x3584 .f32) (v : Vec Ideal S32x3584 .f32) (i : S32x1.Idx) :
    k0_pay14 (F := Ideal) l v i = scaleOf (fun j => v (ix2 (i 0) j)) (fun j => l (ix2 0 j)) := by
  refine Eq.trans ?_ (scaleOf_eq inv_d _ _)
  unfold k0_pay14 k0_pay13 k0_pay12 k0_pay11
  idx_vars i
  pointwise
  rfl

/-- The code at an index of a group of 32 rows. -/
theorem code_apply (l : Vec Ideal S1x3584 .f32) (v : Vec Ideal S32x3584 .f32) (i : S32x3584.Idx) :
    k0_pay15 (F := Ideal) l v i = codeOf (fun j => v (ix2 (i 0) j)) (fun j => l (ix2 0 j)) (i 1) := by
  refine Eq.trans ?_ (codeOf_eq inv_d _ _ _)
  unfold k0_pay15 k0_pay13 k0_pay12 k0_pay11
  idx_vars i
  pointwise
  rw [scale_apply]
  rfl

/-- A column of scales across 128 lanes. -/
theorem tail_apply (u : FVec Ideal S32x1 .f32) (i : S32x128.Idx) : k0_pay16 (F := Ideal) u i = u (ix2 (i 0) 0) := by
  unfold k0_pay16
  idx_vars i
  pointwise

/-- The scale of each row of a block. -/
theorem sOut_apply (l : Vec Ideal S1x3584 .f32) (h : Vec Ideal S512x3584 .f32) (y : S512x128.Idx) :
    sOut (F := Ideal) l h y = scaleOf (fun j => h (ix2 (y 0) j)) (fun j => l (ix2 0 j)) := by
  unfold sOut sPieces
  canon_tiles y hy
  all_goals
    rw [tail_apply, scale_apply]
    refine congrArg₂ scaleOf (funext fun j => ?_) (funext fun j => ?_)
    · pointwise
      first | done | exact congrArg (fun r => h (ix2 r j)) (Fin.ext (by first | exact hy0.symm | (simp; omega)))
    · pointwise

/-- The codes of each row of a block. -/
theorem cOut_apply (l : Vec Ideal S1x3584 .f32) (h : Vec Ideal S512x3584 .f32) (y : S512x3584.Idx) :
    cOut (F := Ideal) l h y = codeOf (fun j => h (ix2 (y 0) j)) (fun j => l (ix2 0 j)) (y 1) := by
  unfold cOut cPieces
  canon_tiles y hy
  all_goals
    rw [code_apply]
    refine congr (congrArg₂ codeOf (funext fun j => ?_) (funext fun j => ?_)) (Fin.ext hy1.symm)
    · pointwise
      first | done | exact congrArg (fun r => h (ix2 r j)) (Fin.ext (by first | exact hy0.symm | (simp; omega)))
    · pointwise

/-- The block's scales laid out as a row. -/
theorem sRow_apply (l : Vec Ideal S1x3584 .f32) (h : Vec Ideal S512x3584 .f32) (x : S1x512.Idx) :
    sRow (F := Ideal) l h x = scaleOf (fun j => h (ix2 (x 1) j)) (fun j => l (ix2 0 j)) := by
  have e : sRow (F := Ideal) l h x = sOut (F := Ideal) l h (ix2 (x 1) 0) := by
    unfold sRow k0_pay118
    generalize sOut (F := Ideal) l h = u
    idx_vars x
    pointwise
  rw [e, sOut_apply]
  rfl

end Cert.OprojIdeal.Oproj
-- ==== Proof.OprojR.Value.lean ====
/- What the reference of the output projection leaves: each result array is an expression of the argument arrays. -/
module

public import proofs.«01_k».proof.Proof.Gen.OprojRefIdeal.Frame
public import Idealize.ShloMosaic.Lib.Pipeline.Value

@[expose] public section

noncomputable section

namespace Cert.OprojRefIdeal.Whole

open Cert.OprojRefIdeal Cert.OprojRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S16384x1792.Idx) : ((cfg0.win 0).blk t).view.emb j = j := by
  obtain ⟨e0, e1⟩ := idx_zero0 t
  funext a; apply Fin.ext
  match a with
  | ⟨0, _⟩ => show win0_0.index t (0 : Fin 2) * 16384 + 1 * (j 0).val = (j 0).val; omega
  | ⟨1, _⟩ => show win0_0.index t (1 : Fin 2) * 1792 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S16384x128.Idx) : ((cfg0.win 1).blk t).view.emb j = j := by
  obtain ⟨e0, e1⟩ := idx_zero1 t
  funext a; apply Fin.ext
  match a with
  | ⟨0, _⟩ => show win0_1.index t (0 : Fin 2) * 16384 + 1 * (j 0).val = (j 0).val; omega
  | ⟨1, _⟩ => show win0_1.index t (1 : Fin 2) * 128 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S16384x3584.Idx) : ((cfg0.win 2).blk t).view.emb j = j := by
  obtain ⟨e0, e1⟩ := idx_zero2 t
  funext a; apply Fin.ext
  match a with
  | ⟨0, _⟩ => show win0_2.index t (0 : Fin 2) * 16384 + 1 * (j 0).val = (j 0).val; omega
  | ⟨1, _⟩ => show win0_2.index t (1 : Fin 2) * 3584 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1792x3584.Idx) : ((cfg0.win 3).blk t).view.emb j = j := by
  obtain ⟨e0, e1⟩ := idx_zero3 t
  funext a; apply Fin.ext
  match a with
  | ⟨0, _⟩ => show win0_3.index t (0 : Fin 2) * 1792 + 1 * (j 0).val = (j 0).val; omega
  | ⟨1, _⟩ => show win0_3.index t (1 : Fin 2) * 3584 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1x3584.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 3584 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1x3584.Idx) : ((cfg0.win 5).blk t).view.emb j = j := by
  obtain ⟨e0, e1⟩ := idx_zero5 t
  funext a; apply Fin.ext
  match a with
  | ⟨0, _⟩ => show win0_5.index t (0 : Fin 2) * 1 + 1 * (j 0).val = (j 0).val; omega
  | ⟨1, _⟩ => show win0_5.index t (1 : Fin 2) * 3584 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S16384x3584.Idx) : ((cfg0.win 6).blk t).view.emb j = j := by
  obtain ⟨e0, e1⟩ := idx_zero6 t
  funext a; apply Fin.ext
  match a with
  | ⟨0, _⟩ => show win0_6.index t (0 : Fin 2) * 16384 + 1 * (j 0).val = (j 0).val; omega
  | ⟨1, _⟩ => show win0_6.index t (1 : Fin 2) * 3584 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S16384x3584.Idx) : ((cfg0.win 7).blk t).view.emb j = j := by
  obtain ⟨e0, e1⟩ := idx_zero7 t
  funext a; apply Fin.ext
  match a with
  | ⟨0, _⟩ => show win0_7.index t (0 : Fin 2) * 16384 + 1 * (j 0).val = (j 0).val; omega
  | ⟨1, _⟩ => show win0_7.index t (1 : Fin 2) * 3584 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S4x4096.Idx) : ((cfg0.win 8).blk t).view.emb j = j := by
  obtain ⟨e0, e1⟩ := idx_zero8 t
  funext a; apply Fin.ext
  match a with
  | ⟨0, _⟩ => show win0_8.index t (0 : Fin 2) * 4 + 1 * (j 0).val = (j 0).val; omega
  | ⟨1, _⟩ => show win0_8.index t (1 : Fin 2) * 4096 + 1 * (j 1).val = (j 1).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S16384x128.Idx) : ((cfg0.win 9).blk t).view.emb j = j := by
  obtain ⟨e0, e1⟩ := idx_zero9 t
  funext a; apply Fin.ext
  match a with
  | ⟨0, _⟩ => show win0_9.index t (0 : Fin 2) * 16384 + 1 * (j 0).val = (j 0).val; omega
  | ⟨1, _⟩ => show win0_9.index t (1 : Fin 2) * 128 + 1 * (j 1).val = (j 1).val; omega

/-! ### Output window 6: the array after the run -/

/-- What the window's array ends holding: `out0_6` applied to the argument arrays in place of the input blocks (a value that the
    frame states apart, `kK_payN a…`, keeps its loads inside its own definition). -/
abbrev G6 (a0 : Vec F S16384x1792 .fp8e4m3) (a1 : Vec F S16384x128 .f32) (a2 : Vec F S16384x3584 .bf16) (a3 : Vec F S1792x3584 .fp8e4m3) (a4 : Vec F S1x3584 .f32) (a5 : Vec F S1x3584 .f32) : Vec F S16384x3584 .f32 :=
  k0_pay4 a0 a3 a2 (View.ld a1 r0_3) a4

/-- A load of the whole of a block reads the block, and the one store through the whole rectangle leaves its payload. -/
theorem out6_eq (a0 : Vec F S16384x1792 .fp8e4m3) (a1 : Vec F S16384x128 .f32) (a2 : Vec F S16384x3584 .bf16) (a3 : Vec F S1792x3584 .fp8e4m3) (a4 : Vec F S1x3584 .f32) (a5 : Vec F S1x3584 .f32) : out0_6 (F := F) a0 a1 a2 a3 a4 a5 = G6 a0 a1 a2 a3 a4 a5 := by
  unfold out0_6
  rw [View.canon_unit_zero hz6, View.ld_unit_zero (S := S16384x1792) hz0 _ a0, View.ld_unit_zero (S := S1792x3584) hz3 _ a3, View.ld_unit_zero (S := S16384x3584) hz2 _ a2, View.ld_unit_zero (S := S1x3584) hz4 _ a4]

/-- Cutting the point's block out of `X` and reading `X` through the block's view give the same. -/
theorem cut6_eq (t : Fin cfg0.N) (X : Vec F S16384x3584 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S16384x3584.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S16384x1792 .fp8e4m3) (a1 : Vec F S16384x128 .f32) (a2 : Vec F S16384x3584 .bf16) (a3 : Vec F S1792x3584 .fp8e4m3) (a4 : Vec F S1x3584 .f32) (a5 : Vec F S1x3584 .f32) : Vec F S16384x3584 .fp8e4m3 :=
  k0_pay1 (k0_pay7 a0 a3 a2 (View.ld a1 r0_3) a4 a5)

/-- A load of the whole of a block reads the block, and the one store through the whole rectangle leaves its payload. -/
theorem out7_eq (a0 : Vec F S16384x1792 .fp8e4m3) (a1 : Vec F S16384x128 .f32) (a2 : Vec F S16384x3584 .bf16) (a3 : Vec F S1792x3584 .fp8e4m3) (a4 : Vec F S1x3584 .f32) (a5 : Vec F S1x3584 .f32) : out0_7 (F := F) a0 a1 a2 a3 a4 a5 = G7 a0 a1 a2 a3 a4 a5 := by
  unfold out0_7
  rw [View.canon_unit_zero hz7, View.ld_unit_zero (S := S16384x1792) hz0 _ a0, View.ld_unit_zero (S := S1792x3584) hz3 _ a3, View.ld_unit_zero (S := S16384x3584) hz2 _ a2, View.ld_unit_zero (S := S1x3584) hz4 _ a4, View.ld_unit_zero (S := S1x3584) hz5 _ a5]

/-- Cutting the point's block out of `X` and reading `X` through the block's view give the same. -/
theorem cut7_eq (t : Fin cfg0.N) (X : Vec F S16384x3584 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S16384x3584.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S16384x1792 .fp8e4m3) (a1 : Vec F S16384x128 .f32) (a2 : Vec F S16384x3584 .bf16) (a3 : Vec F S1792x3584 .fp8e4m3) (a4 : Vec F S1x3584 .f32) (a5 : Vec F S1x3584 .f32) : Vec F S4x4096 .f32 :=
  k0_pay2 (k0_pay8 a0 a1 a2 a3 a4 a5)

/-- The one store through the whole rectangle leaves its payload. -/
theorem out8_eq (a0 : Vec F S16384x1792 .fp8e4m3) (a1 : Vec F S16384x128 .f32) (a2 : Vec F S16384x3584 .bf16) (a3 : Vec F S1792x3584 .fp8e4m3) (a4 : Vec F S1x3584 .f32) (a5 : Vec F S1x3584 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S4x4096 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S4x4096.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S16384x1792 .fp8e4m3) (a1 : Vec F S16384x128 .f32) (a2 : Vec F S16384x3584 .bf16) (a3 : Vec F S1792x3584 .fp8e4m3) (a4 : Vec F S1x3584 .f32) (a5 : Vec F S1x3584 .f32) : Vec F S16384x128 .f32 :=
  k0_pay3 (k0_pay8 a0 a1 a2 a3 a4 a5)

/-- The one store through the whole rectangle leaves its payload. -/
theorem out9_eq (a0 : Vec F S16384x1792 .fp8e4m3) (a1 : Vec F S16384x128 .f32) (a2 : Vec F S16384x3584 .bf16) (a3 : Vec F S1792x3584 .fp8e4m3) (a4 : Vec F S1x3584 .f32) (a5 : Vec F S1x3584 .f32) : out0_9 (F := F) a0 a1 a2 a3 a4 a5 = G9 a0 a1 a2 a3 a4 a5 := by
  unfold out0_9
  rw [View.canon_unit_zero hz9]

/-- Cutting the point's block out of `X` and reading `X` through the block's view give the same. -/
theorem cut9_eq (t : Fin cfg0.N) (X : Vec F S16384x128 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S16384x128.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c⟩)
    (run_main m ρ)

end Cert.OprojRefIdeal.Whole

end
-- ==== Proof.OprojR.Point.lean ====
/- The reference of the output projection at an index: the residual sum, and the scale and the codes of each normalised row. -/
module

public import proofs.«01_k».proof.Proof.OprojR.Value
public import proofs.«01_k».proof.Proof.OprojI.Norm
public import Idealize.ShloMosaic.Lib.Pointwise

@[expose] public section

set_option maxRecDepth 16384

noncomputable section

namespace Cert.OprojRefIdeal.Whole

open Cert.OprojRefIdeal Cert.OprojRefIdeal.Gen Idealize.ShloMosaic Idealize.ShloMosaic.TcCoe
open Cert.Norm

variable (a : FVec Ideal S16384x1792 .fp8e4m3) (s : FVec Ideal S16384x128 .f32) (x : FVec Ideal S16384x3584 .bf16)
  (w : FVec Ideal S1792x3584 .fp8e4m3) (ws l : FVec Ideal S1x3584 .f32)

/-- The residual sum at an index. -/
theorem sum_apply (i : S16384x3584.Idx) : G6 (F := Ideal) a s x w ws l i
    = x i + (∑ k : Fin 1792, a (ix2 (i 0) k) * w (ix2 k (i 1))) * s (ix2 (i 0) 0) * ws (ix2 0 (i 1)) := by
  unfold G6 k0_pay4
  idx_vars i
  pointwise

/-- The rows of an array, scaled by `l` and divided by their root mean square. -/
def normed (h : FVec Ideal S16384x3584 .f32) (l : FVec Ideal S1x3584 .f32) : FVec Ideal S16384x3584 .f32 :=
  divf (mulf h (broadcastTo S16384x3584 l broadcasts_S1x3584_S16384x3584))
    (broadcastTo S16384x3584 (sqrt (addf (divf (shapeCast S16384x1 (multiReduction .add [1] S16384 (mulf h h) 0x00000000#32
        reduces_S16384x3584_S16384 (.inl rfl) rfl) shapeCasts_S16384_S16384x1)
        (broadcast S16384x1 (Scalar.ofBits .f32 0x45600000#32 : Ideal .f32)))
      (broadcast S16384x1 (Scalar.ofBits .f32 0x358637BD#32 : Ideal .f32)))) broadcasts_S16384x1_S16384x3584)

/-- A normalised row at an index. -/
theorem normed_apply (h : FVec Ideal S16384x3584 .f32) (l : FVec Ideal S1x3584 .f32) (r : Fin 16384) (j : Fin 3584) :
    normed h l (ix2 r j) = Ideal.div (h (ix2 r j) * l (ix2 0 j)) (rms ((1 / 3584 : ℝ) : EReal) fun k => h (ix2 r k)) := by
  rw [← rms_div]
  unfold normed
  pointwise

/-- The payload of the normalised rows, by name. -/
theorem pay5_eq (s' : Vec Ideal S16384x1 .f32) :
    k0_pay5 (F := Ideal) a w x s' ws l = normed (k0_pay4 (F := Ideal) a w x s' ws) l := by
  unfold k0_pay5 normed
  generalize k0_pay4 (F := Ideal) a w x s' ws = h
  rfl

/-- The normalised row at a row and a column. -/
theorem norm_at (r : Fin 16384) (j : Fin 3584) : k0_pay5 (F := Ideal) a w x (View.ld s r0_3) ws l (ix2 r j)
    = Ideal.div (G6 (F := Ideal) a s x w ws l (ix2 r j) * l (ix2 0 j))
        (rms ((1 / 3584 : ℝ) : EReal) fun k => G6 (F := Ideal) a s x w ws l (ix2 r k)) := by
  rw [pay5_eq]
  exact normed_apply _ _ _ _

/-- The largest magnitude of each row. -/
def amps (u : FVec Ideal S16384x3584 .f32) : FVec Ideal S16384x1 .f32 :=
  shapeCast S16384x1 (multiReduction .maximumf [1] S16384 (absf u) 0xFF800000#32 reduces_S16384x3584_S16384 (.inl rfl) rfl) shapeCasts_S16384_S16384x1

/-- The scales from the largest magnitudes. -/
def scales (v : FVec Ideal S16384x1 .f32) : FVec Ideal S16384x1 .f32 :=
  select (cmpf .oeq v (broadcast S16384x1 (Scalar.ofBits .f32 0x00000000#32 : Ideal .f32)))
    (broadcast S16384x1 (Scalar.ofBits .f32 0x3F800000#32 : Ideal .f32))
    (divf v (broadcast S16384x1 (Scalar.ofBits .f32 0x43E00000#32 : Ideal .f32)))

/-- The largest magnitude of a row from its elements. -/
theorem amps_apply (u : FVec Ideal S16384x3584 .f32) (i : S16384x1.Idx) : amps u i = amp fun j => u (ix2 (i 0) j) := by
  unfold amps
  idx_vars i
  pointwise
  rfl

/-- The scale of a row from its largest magnitude. -/
theorem scales_apply (v : FVec Ideal S16384x1 .f32) (i : S16384x1.Idx) : scales v i = scale (v i) := by
  unfold scales
  idx_vars i
  pointwise
  rfl

/-- The codes' argument: an array's elements over its rows' scales. -/
theorem quot_apply (u : FVec Ideal S16384x3584 .f32) (v : FVec Ideal S16384x1 .f32) (i : S16384x3584.Idx) :
    divf u (broadcastTo S16384x3584 v broadcasts_S16384x1_S16384x3584) i = Ideal.div (u i) (v (ix2 (i 0) 0)) := by
  idx_vars i
  pointwise

/-- The codes: the elements clipped. -/
theorem clip_apply (u : FVec Ideal S16384x3584 .f32) (i : S16384x3584.Idx) : k0_pay1 (F := Ideal) u i = clip (u i) := by
  unfold k0_pay1
  idx_vars i
  pointwise
  rfl

/-- The column of scales as the table's 4 rows of 4096. -/
theorem table_apply (u : FVec Ideal S16384x1 .f32) (i : S4x4096.Idx) (r : Fin 16384) (h : r.val = (i 0).val * 4096 + (i 1).val) :
    k0_pay2 (F := Ideal) u i = u (ix2 r 0) := by
  unfold k0_pay2
  idx_vars i
  pointwise
  exact congrArg (fun q => u (ix2 q 0)) (Fin.ext h.symm)

/-- The column of scales across 128 lanes. -/
theorem lanes_apply (u : FVec Ideal S16384x1 .f32) (i : S16384x128.Idx) : k0_pay3 (F := Ideal) u i = u (ix2 (i 0) 0) := by
  unfold k0_pay3
  idx_vars i
  pointwise

/-- The payload of the scales, by name. -/
theorem pay6_eq (s' : Vec Ideal S16384x1 .f32) :
    k0_pay6 (F := Ideal) a w x s' ws l = scales (amps (k0_pay5 (F := Ideal) a w x s' ws l)) := by
  unfold k0_pay6 scales amps
  generalize k0_pay5 (F := Ideal) a w x s' ws l = u
  rfl

/-- The scales' column, as the loads of whole blocks give it. -/
theorem col_eq {F : FTy → Type} [FloatOps F] (a : Vec F S16384x1792 .fp8e4m3) (s : Vec F S16384x128 .f32) (x : Vec F S16384x3584 .bf16)
    (w : Vec F S1792x3584 .fp8e4m3) (ws l : Vec F S1x3584 .f32) :
    k0_pay8 (F := F) a s x w ws l = k0_pay6 (F := F) a w x (View.ld s r0_3) ws l := by
  unfold k0_pay8
  rw [View.ld_unit_zero (S := S16384x1792) hz0 _ a, View.ld_unit_zero (S := S1792x3584) hz3 _ w,
    View.ld_unit_zero (S := S16384x3584) hz2 _ x, View.ld_unit_zero (S := S1x3584) hz4 _ ws, View.ld_unit_zero (S := S1x3584) hz5 _ l]

/-- The scale of a row of the residual sum. -/
theorem scale_apply (i : S16384x1.Idx) : k0_pay6 (F := Ideal) a w x (View.ld s r0_3) ws l i
    = scaleOf (fun j => G6 (F := Ideal) a s x w ws l (ix2 (i 0) j)) (fun j => l (ix2 0 j)) := by
  rw [pay6_eq, scales_apply, amps_apply]
  unfold scaleOf
  refine congrArg (fun u => scale (amp u)) (funext fun j => ?_)
  exact norm_at a s x w ws l (i 0) j

/-- The code at an index. -/
theorem G7_apply (i : S16384x3584.Idx) : G7 (F := Ideal) a s x w ws l i
    = codeOf (fun j => G6 (F := Ideal) a s x w ws l (ix2 (i 0) j)) (fun j => l (ix2 0 j)) (i 1) := by
  idx_vars i
  refine (clip_apply _ _).trans (congrArg clip ?_)
  refine (quot_apply _ _ _).trans ?_
  exact congrArg₂ Ideal.div (norm_at a s x w ws l i0 i1) (scale_apply a s x w ws l (ix2 i0 0))

/-- The table of scales at an index. -/
theorem G8_apply (i : S4x4096.Idx) (r : Fin 16384) (h : r.val = (i 0).val * 4096 + (i 1).val) : G8 (F := Ideal) a s x w ws l i
    = scaleOf (fun j => G6 (F := Ideal) a s x w ws l (ix2 r j)) (fun j => l (ix2 0 j)) := by
  unfold G8
  rw [table_apply _ i r h, col_eq, scale_apply]
  rfl

/-- The lanes of scales at an index. -/
theorem G9_apply (i : S16384x128.Idx) : G9 (F := Ideal) a s x w ws l i
    = scaleOf (fun j => G6 (F := Ideal) a s x w ws l (ix2 (i 0) j)) (fun j => l (ix2 0 j)) := by
  unfold G9
  rw [lanes_apply, col_eq, scale_apply]
  rfl

end Cert.OprojRefIdeal.Whole
-- ==== Proof.OprojI.Sum.lean ====
/- What the output projection's blocks hold: each block of the residual sum is the reference's at its rows. -/
module

public import proofs.«01_k».proof.Proof.OprojI.Row
public import proofs.«01_k».proof.Proof.OprojR.Point
public import Idealize.ShloMosaic.Lib.Pointwise
public import Idealize.ShloMosaic.Lib.Pipeline.ValueKit

@[expose] public section

set_option maxRecDepth 16384

noncomputable section

namespace Cert.OprojIdeal.Oproj

open Idealize.ShloMosaic Idealize.ShloMosaic.TcCoe Idealize.SL.Sem
open Idealize.ShloMosaic.Pipeline (Dat)
open Cert.OprojIdeal Cert.OprojIdeal.Gen Cert.OprojIdeal.Hand

variable (m : (ℓ : Loc nD τ sig) → Buf (Elt Ideal) ℓ)

/-- The block that each window holds at grid point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![0, 0] ∧ win0_9.index t = ![t.val, 0] :=
  (by decide +kernel : ∀ t : Fin grid0.N, _)

/-- The reference's residual sum of the argument arrays. -/
abbrev H (c : Dev nD) : FVec Ideal S16384x3584 .f32 :=
  Cert.OprojRefIdeal.Whole.G6 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- What grid point `t` leaves at index `y` of its block of the residual sum is the reference's at that index of the array. -/
theorem sum_point (c : Dev nD) (t : Fin cfg0.N) (y : S512x3584.Idx) :
    hAt m c t y = H m c (((cfg0.win 6).blk t).view.emb y) := by
  unfold hAt hOut hPieces H
  canon_tiles y h
  all_goals
    open_payloads
    rw [Cert.OprojRefIdeal.Whole.sum_apply]
    pointwise
    blk_point [iblk, V, idx t]

end Cert.OprojIdeal.Oproj
-- ==== Proof.OprojI.Value.lean ====
/- What the output projection computes: the four arrays that the tiled kernel leaves are the reference's whole-array
   expressions of the argument arrays. -/
module

public import proofs.«01_k».proof.Proof.OprojI.Sum
public import Idealize.ShloMosaic.Lib.Pointwise
public import Idealize.ShloMosaic.Lib.Pipeline.ValueKit

@[expose] public section

set_option maxRecDepth 16384

noncomputable section

namespace Cert.OprojIdeal.Oproj

open Idealize.ShloMosaic Idealize.ShloMosaic.TcCoe Idealize.SL.Sem
open Idealize.ShloMosaic.Pipeline (Dat RDat)
open Cert.OprojIdeal Cert.OprojIdeal.Gen Cert.OprojIdeal.Hand

variable (m : (ℓ : Loc nD τ sig) → Buf (Elt Ideal) ℓ)

/-- Where window 6 places index `y` of point `t`'s block. -/
theorem emb6 (t : Fin cfg0.N) (y : S512x3584.Idx) :
    ((((cfg0.win 6).blk t).view.emb y) 0).val = t.val * 512 + (y 0).val ∧ ((((cfg0.win 6).blk t).view.emb y) 1).val = (y 1).val := by
  have h : win0_6.index t = ![t.val, 0] := by simp only [idx t]
  have e0 := win0_6.rect_emb_val t y 0
  have e1 := win0_6.rect_emb_val t y 1
  rw [h] at e0 e1
  exact ⟨e0, e1.trans (by show 0 * _ + _ = _; omega)⟩

/-- Where window 7 places index `y` of point `t`'s block. -/
theorem emb7 (t : Fin cfg0.N) (y : S512x3584.Idx) :
    ((((cfg0.win 7).blk t).view.emb y) 0).val = t.val * 512 + (y 0).val ∧ ((((cfg0.win 7).blk t).view.emb y) 1).val = (y 1).val := by
  have h : win0_7.index t = ![t.val, 0] := by simp only [idx t]
  have e0 := win0_7.rect_emb_val t y 0
  have e1 := win0_7.rect_emb_val t y 1
  rw [h] at e0 e1
  exact ⟨e0, e1.trans (by show 0 * _ + _ = _; omega)⟩

/-- Where window 9 places index `y` of point `t`'s block. -/
theorem emb9 (t : Fin cfg0.N) (y : S512x128.Idx) :
    ((((cfg0.win 9).blk t).view.emb y) 0).val = t.val * 512 + (y 0).val ∧ ((((cfg0.win 9).blk t).view.emb y) 1).val = (y 1).val := by
  have h : win0_9.index t = ![t.val, 0] := by simp only [idx t]
  have e0 := win0_9.rect_emb_val t y 0
  have e1 := win0_9.rect_emb_val t y 1
  rw [h] at e0 e1
  exact ⟨e0, e1.trans (by show 0 * _ + _ = _; omega)⟩

/-- A block of the residual sum by row and column. -/
theorem sum_at (c : Dev nD) (t : Fin cfg0.N) (r : Fin 512) (j : Fin 3584) (R : Fin 16384) (hR : R.val = t.val * 512 + r.val) :
    hAt m c t (ix2 r j) = H m c (ix2 R j) := by
  rw [sum_point]
  refine congrArg (H m c) ?_
  funext a
  fin_cases a
  · exact Fin.ext ((emb6 t (ix2 r j)).1.trans hR.symm)
  · exact Fin.ext (emb6 t (ix2 r j)).2

/-- The reference's codes, its table of scales and its lanes of scales, of the argument arrays. -/
abbrev C (c : Dev nD) : FVec Ideal S16384x3584 .fp8e4m3 :=
  Cert.OprojRefIdeal.Whole.G7 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
abbrev T (c : Dev nD) : FVec Ideal S4x4096 .f32 :=
  Cert.OprojRefIdeal.Whole.G8 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
abbrev L (c : Dev nD) : FVec Ideal S16384x128 .f32 :=
  Cert.OprojRefIdeal.Whole.G9 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- The normalisation's weights are the same at every point. -/
theorem weights (c : Dev nD) (t : Fin cfg0.N) (j : Fin 3584) : iblk m c 5 t (ix2 0 j) = m ((c : Thread nD τ).loc main_arg5) (ix2 0 j) := by
  blk_point [iblk, V, idx t]

/-- The codes of point `t`'s block. -/
theorem code_point (c : Dev nD) (t : Fin cfg0.N) (y : S512x3584.Idx) :
    cOut (iblk m c 5 t) (hAt m c t) y = C m c (((cfg0.win 7).blk t).view.emb y) := by
  rw [cOut_apply, C, Cert.OprojRefIdeal.Whole.G7_apply]
  refine congr (congrArg₂ Cert.Norm.codeOf (funext fun j => ?_) (funext fun j => weights m c t j)) (Fin.ext (emb7 t y).2.symm)
  exact sum_at m c t (y 0) j _ (emb7 t y).1

/-- The lanes of point `t`'s block. -/
theorem lane_point (c : Dev nD) (t : Fin cfg0.N) (y : S512x128.Idx) :
    sOut (iblk m c 5 t) (hAt m c t) y = L m c (((cfg0.win 9).blk t).view.emb y) := by
  rw [sOut_apply, L, Cert.OprojRefIdeal.Whole.G9_apply]
  refine congrArg₂ Cert.Norm.scaleOf (funext fun j => ?_) (funext fun j => weights m c t j)
  exact sum_at m c t (y 0) j _ (emb9 t y).1

/-- The whole table of scales, after the last point. -/
theorem table_last (c : Dev nD) (t : Fin cfg0.N) (ht : t.val = 31) (X : Vec Ideal S4x4096 .f32) (hX : Table m c t X) (y : S4x4096.Idx) :
    X y = T m c y := by
  have h0 : (y 0).val < 4 := (y 0).isLt
  have h1 : (y 1).val < 4096 := (y 1).isLt
  have e := hX ⟨(y 0).val * 8 + (y 1).val / 512, by rw [show cfg0.N = 32 from N_0]; omega⟩ y (ix2 0 ⟨(y 1).val % 512, by omega⟩)
    (by show _ ≤ t.val; simp only []; omega) (by show _ = ((y 0).val * 8 + (y 1).val / 512) / 8; omega)
    (by show (y 1).val = ((y 0).val * 8 + (y 1).val / 512) % 8 * 512 + (y 1).val % 512; omega)
  rw [e, T, Cert.OprojRefIdeal.Whole.G8_apply _ _ _ _ _ _ y ⟨(y 0).val * 4096 + (y 1).val, by omega⟩ rfl]
  unfold rowAt
  rw [sRow_apply]
  refine congrArg₂ Cert.Norm.scaleOf (funext fun j => ?_) (funext fun j => weights m c _ j)
  exact sum_at m c _ _ j _ (by show _ = ((y 0).val * 8 + (y 1).val / 512) * 512 + (y 1).val % 512; simp only []; omega)

/-- The kernel leaves the reference's results in its four output arrays. -/
theorem final {r} (h : RDat.FramePost (cfgs 0) (rdats m) (V m) r) (c : Dev nD) :
    r.2.mem ((c : Thread nD τ).loc main_v0_0) = H m c ∧ r.2.mem ((c : Thread nD τ).loc main_v0_1) = C m c
    ∧ r.2.mem ((c : Thread nD τ).loc main_v0_2) = T m c ∧ r.2.mem ((c : Thread nD τ).loc main_v0_3) = L m c := by
  obtain ⟨after, hL, hA⟩ := RDat.FramePost.exists_exact h c
  have l6 : ∀ t, after 6 t = hAt m c t := fun t =>
    (dats m 0 c).toRRel_leaves (fgt := outs) (Rl := left m c) (w := 6) rfl (hL 6 t (flush0_6 t))
  have l7 : ∀ t, after 7 t = cOut (iblk m c 5 t) (hAt m c t) := fun t =>
    (dats m 0 c).toRRel_leaves (fgt := outs) (Rl := left m c) (w := 7) rfl (hL 7 t (flush0_7 t))
  have l8 : ∀ t : Fin cfg0.N, t.val = 31 → Table m c t (after 8 t) := fun t ht =>
    (dats m 0 c).toRRel_leaves (fgt := outs) (Rl := left m c) (w := 8) rfl (hL 8 t ((flush0_8 t).mpr (by omega)))
  have l9 : ∀ t, after 9 t = sOut (iblk m c 5 t) (hAt m c t) := fun t =>
    (dats m 0 c).toRRel_leaves (fgt := outs) (Rl := left m c) (w := 9) rfl (hL 9 t (flush0_9 t))
  refine ⟨(hA 6).trans ?_, (hA 7).trans ?_, (hA 8).trans ?_, (hA 9).trans ?_⟩
  · refine Dat.arrAt_eq_of_covers _ 6 _ (by decide +kernel) fun t _ y => ?_
    blk_simp
    rw [RDat.withAfter_after, l6]
    exact sum_point m c t y
  · refine Dat.arrAt_eq_of_covers _ 7 _ (by decide +kernel) fun t _ y => ?_
    blk_simp
    rw [RDat.withAfter_after, l7]
    exact code_point m c t y
  · refine Dat.arrAt_eq_of_after_last _ 8 ⟨31, by decide⟩ (by decide +kernel) _ fun y => ?_
    rw [RDat.withAfter_after]
    exact table_last m c _ rfl _ (l8 _ rfl) y
  · refine Dat.arrAt_eq_of_covers _ 9 _ (by decide +kernel) fun t _ y => ?_
    blk_simp
    rw [RDat.withAfter_after, l9]
    exact lane_point m c t y

end Cert.OprojIdeal.Oproj
-- ==== Proof.GateUp.Body.lean ====
/- The body of the gate-and-up call. -/
module

public import proofs.«01_k».proof.Proof.Gen.GateUp.Frame
public import proofs.«01_k».proof.Proof.Gen.GateUp.Skeleton
public import Idealize.ShloMosaic.Lib.Claim
public import Idealize.ShloMosaic.Lib.WritesUnit

@[expose] public section

set_option maxRecDepth 16384

noncomputable section

namespace Cert.GateUp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.GateUp.Gen

variable {F : FTy → Type} [BitOps F]

set_option maxHeartbeats 16000000 in
/-- The body on whole staging buffers: it leaves the inputs as they were, and every other buffer at some contents. -/
theorem run (c : Dev nD) (E : Set ℕ) (i : grid0.Coords)  (arg2 : Memref sig .tc .vmem S512x3584 .fp8e4m3) (harg2 : arg2.IsWhole) (arg3 : Memref sig .tc .vmem S512x128 .f32) (harg3 : arg3.IsWhole) (arg4 : Memref sig .tc .vmem S3584x2048 .fp8e4m3) (harg4 : arg4.IsWhole) (arg5 : Memref sig .tc .vmem S3584x2048 .fp8e4m3) (harg5 : arg5.IsWhole) (arg6 : Memref sig .tc .vmem S1x18944 .f32) (harg6 : arg6.IsWhole) (arg7 : Memref sig .tc .vmem S512x2048 .fp8e4m3) (harg7 : arg7.IsWhole) (arg8 : Memref sig .tc .vmem S4x4096 .f32) (harg8 : arg8.IsWhole) (arg9 : Memref sig .tc .vmem S512x128 .f32) (harg9 : arg9.IsWhole) (arg10 : Memref sig .tc .vmem S37x512x256 .f32) (harg10 : arg10.IsWhole) (arg11 : Memref sig .tc .vmem S512x128 .f32) (harg11 : arg11.IsWhole) (arg12 : Memref sig .tc .vmem S512x128 .f32) (harg12 : arg12.IsWhole)
    (x0 : Vec F S512x3584 .fp8e4m3) (x1 : Vec F S512x128 .f32) (x2 : Vec F S3584x2048 .fp8e4m3) (x3 : Vec F S3584x2048 .fp8e4m3) (x4 : Vec F S1x18944 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

end Cert.GateUp.Hand

end
-- ==== Proof.GateUp.Run.lean ====
/- The run of the gate-and-up call (`GateUp`): the proof data point by point, the body's obligation, and the frame claim. -/
module

public import proofs.«01_k».proof.Proof.GateUp.Body
public import proofs.«01_k».proof.Proof.Gen.GateUp.Launch
public import Idealize.ShloMosaic.Lib.Pipeline.DatRel
public import Idealize.ShloMosaic.Lib.Pipeline.ArrRel
public import Idealize.ShloMosaic.Lib.Claim

@[expose] public section

set_option maxRecDepth 16384

noncomputable section

namespace Cert.GateUp.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.GateUp.Gen

variable {F : FTy → Type} [BitOps F]

variable (m : (ℓ : Loc nD τ sig) → Buf (Elt F) ℓ) (ρ : Dev nD → PrngReg)

/-! ## The proof data -/

/-- What the body leaves in each output window at point `t`: this certificate says nothing of it. -/
def left (c : Dev nD) (w : Fin cfg0.W) (t : Fin cfg0.N) : ((cfg0.win w).block.Idx → Elt F (cfg0.win w).elt) → Prop := fun _ => True

/-- What the points hand on besides the windows: the scratch buffers, at some contents. -/
def Φm (c : Dev nD) (k : ℕ) : sProp (MT nD τ sig Unit (Elt F) ℕ (UR sig nD τ) ℕ) :=
  iprop(((∃ f, owns (c : Thread nD τ) (Memref.whole cc0_scratch0) fullShare f)
    ∗ (∃ f, owns (c : Thread nD τ) (Memref.whole cc0_scratch1) fullShare f)
    ∗ (∃ f, owns (c : Thread nD τ) (Memref.whole cc0_scratch2) fullShare f))
    ∗ ∃ r, prngReg c r)

/-- The proof data of the one pipeline: the arrays as the region finds them, every input's buffer at its block, the outputs'
    left to `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ k := Φm c k.val
  q w := if (spec0 w).isOut then fullShare else Pipeline.shareOf spec0 w
  owed _ := 0

/-- The output windows. -/
def outs : Fin cfg0.W → Bool := fun w => w.val == 5 || w.val == 6 || w.val == 7

/-- The proof data with the outputs held to `left`. -/
abbrev rdats (c : Dev nD) : RDat τ (Elt F) Unit ℕ (UR sig nD τ) ℕ cfg0 c := (dats m 0 c).toRRel outs (left c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body's obligation -/

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d))
    ∗ (∃ Y, ⌜(rdats m c).Finds 5 t Y⌝ ∗ owns (c : Thread nD τ) (st0_5 t) fullShare Y) ∗ (∃ Y, ⌜(rdats m c).Finds 6 t Y⌝ ∗ owns (c : Thread nD τ) (st0_6 t) fullShare Y) ∗ (∃ Y, ⌜(rdats m c).Finds 7 t Y⌝ ∗ owns (c : Thread nD τ) (st0_7 t) fullShare Y))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t)
    ∗ (∃ X, ⌜left c 5 t X⌝ ∗ owns (c : Thread nD τ) (st0_5 t) fullShare X) ∗ (∃ X, ⌜left c 6 t X⌝ ∗ owns (c : Thread nD τ) (st0_6 t) fullShare X) ∗ (∃ X, ⌜left c 7 t X⌝ ∗ owns (c : Thread nD τ) (st0_7 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Φm c (t.val + 1) from rfl, show (dats m 0 c).Φ t.castSucc = Φm c t.val from rfl,
    show (dats m 0 c).owesAt () t.succ = (dats m 0 c).owesAt () t.castSucc from rfl,
    after_0, after_1, after_2, after_3, after_4]
  unfold Φm
  iintro ⟨⟨⟨⟨%g0, G0⟩, ⟨%g1, G1⟩, ⟨%g2, G2⟩⟩, HP⟩, Ho, ⟨%d0, H0⟩, ⟨%d1, H1⟩, ⟨%d2, H2⟩, ⟨%d3, H3⟩, ⟨%d4, H4⟩, ⟨%Y5, %hY5, H5⟩, ⟨%Y6, %hY6, H6⟩, ⟨%Y7, %hY7, H7⟩⟩
  iapply (run c Set.univ (grid0.coords t) _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [G0]; · iexists _; iexact G0
  isplitl [G1]; · iexists _; iexact G1
  isplitl [G2]; · iexists _; iexact G2
  iintro ⟨H0, H1, H2, H3, H4, ⟨%X5, H5⟩, ⟨%X6, H6⟩, ⟨%X7, H7⟩, ⟨%k0, G0⟩, ⟨%k1, G1⟩, ⟨%k2, G2⟩⟩
  isplitl [G0 G1 G2 HP]
  · isplitl [G0 G1 G2]
    · isplitl [G0]
      · iexists k0; iexact G0
      isplitl [G1]
      · iexists k1; iexact G1
      iexists k2; iexact G2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexists _; isplitr; swap; (· iexact H5); ipureintro; trivial
  isplitl [H6]; · iexists _; isplitr; swap; (· iexact H6); ipureintro; trivial
  iexists _; isplitr; swap; (· iexact H7); ipureintro; trivial

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligationRel (dats (F := F) m 0 c) (defs₀ (F := F)) Variants.none () Set.univ outs (left c) := fun t => by
  rw [bigSep_W0, bigSep_W0, defs₀_row]
  exact triple_restated (sound_body m c t) rfl .rfl fun _ => .rfl

/-! ## The run and the frame -/

/-- What the region hands over is what the first point is called with. -/
theorem phi_in (c : Dev nD) : Pipeline.ΦA (Val := Elt F) (U := UR sig nD τ) spec0 c ⊢ Φm c 0 := by
  unfold Pipeline.ΦA Φm
  rw [scopedRest0_eq]
  simp only [owns_whole]
  exact .rfl

/-- What the last point returns is what the region takes back. -/
theorem phi_out (c : Dev nD) (k : ℕ) : Φm c k ⊢ Pipeline.ΦA (Val := Elt F) (U := UR sig nD τ) spec0 c := by
  unfold Pipeline.ΦA Φm
  rw [scopedRest0_eq]
  simp only [owns_whole]
  exact .rfl

set_option backward.isDefEq.respectTransparency.types false in
set_option maxHeartbeats 800000 in
/-- The run: every array of the pipeline at what `left` allows, every other buffer as found, every counter zero. -/
theorem run_main : θ_run defs (onTc (τ := τ) (main (F := F))) (s₀ m ρ) (fun r => (RDat.FramePost (cfgs 0) (rdats m) (V m)) r ∧ r.2.sem = fun _ => 0) :=
  RDat.θ_run_frame_track_shared (Q' := _) cfgs (0 : Fin 1) launch₀0 defs₀ Variants.none (rdats m) m ρ main
    (hbody := fun c => (body_obligation m c).toRRel) (hq := fun c w h => if_neg (by rw [show (spec0 w).isOut = false from h]; decide))
    (howed := fun _ _ => rfl) (V := V m) (hmain := hmain m Variants.none) (hA := A_eq m) (hin := fun c => phi_in c) (hout := fun c => phi_out c (Fin.last cfg0.N).val)

/-- The argument arrays end unchanged. -/
theorem args_of {r} (h : RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((RDat.FramePost.arr_in h c 0 rfl).trans ((A_eq m c 0).trans (V_main_arg0 m c))),
    ((h c).2 main_arg1 (Pipeline.mem_restRefs_of main_arg1 (by decide) (by decide))).trans (V_main_arg1 m c),
    ((RDat.FramePost.arr_in h c 3 rfl).trans ((A_eq m c 3).trans (V_main_arg2 m c))),
    ((RDat.FramePost.arr_in h c 4 rfl).trans ((A_eq m c 4).trans (V_main_arg3 m c)))⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_of m h.1, h.2⟩) (run_main m ρ)

end Cert.GateUp.Hand

end
-- ==== Proof.GateUpI.Base.lean ====
/- The running maximum and the table of scales of the gate-and-up call. -/
module

public import proofs.«01_k».proof.Proof.Gen.GateUpIdeal.Frame
public import proofs.«01_k».proof.Proof.Gen.GateUpIdeal.Skeleton
public import Idealize.ShloMosaic.Lib.Claim
public import Idealize.ShloMosaic.Lib.WritesUnit
public import Idealize.ShloMosaic.Lib.VecWindow

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.GateUpIdeal.Gen

variable {F : FTy → Type} [FloatOps F]

/-! ## The running maximum -/

abbrev rX : Rect S512x3584 := Rect.unit (s := S512x3584) ![0, 0] S512x3584.size inb_S512x3584_S512x3584_0_0
abbrev rS : Rect S512x128 := Rect.unit (s := S512x128) ![0, 0] S512x128.size inb_S512x128_S512x128_0_0

/-- Column chunk `k` of a weight block. -/
abbrev rW (k : ℕ) (h : ∀ a, ![0, 256 * k] a + S3584x256.size a ≤ S3584x2048.size a) : Rect S3584x2048 :=
  Rect.unit (s := S3584x2048) ![0, 256 * k] S3584x256.size h

/-- The chunks of the column scales which a point reads are inside the row of scales. -/
structure Geo (i : grid0.Coords) (n : ℕ) : Prop where
  g : ∀ (k : Fin n) (h : Fin 2), ∀ a, k0_off3 i (BitVec.ofNat 32 k.val) (BitVec.ofNat 32 (128 * h.val)) a + S1x128.size a ≤ S1x18944.size a
  u : ∀ (k : Fin n) (h : Fin 2), ∀ a, k0_off4 i (BitVec.ofNat 32 k.val) (BitVec.ofNat 32 (128 * h.val)) a + S1x128.size a ≤ S1x18944.size a

/-- The gate columns' scales of half `h` of chunk `k`. -/
abbrev rG {i : grid0.Coords} {n : ℕ} (G : Geo i n) (k : Fin n) (h : Fin 2) : Rect S1x18944 :=
  Rect.unit (s := S1x18944) (k0_off3 i (BitVec.ofNat 32 k.val) (BitVec.ofNat 32 (128 * h.val))) S1x128.size (G.g k h)
/-- The up columns' scales of half `h` of chunk `k`. -/
abbrev rU {i : grid0.Coords} {n : ℕ} (G : Geo i n) (k : Fin n) (h : Fin 2) : Rect S1x18944 :=
  Rect.unit (s := S1x18944) (k0_off4 i (BitVec.ofNat 32 k.val) (BitVec.ofNat 32 (128 * h.val))) S1x128.size (G.u k h)

/-- The running maximum after the first 128 columns of a chunk, whose weight columns are chunk `w` of the blocks. -/
def step0 {i : grid0.Coords} {n : ℕ} (G : Geo i n) (k : Fin n) (w : ℕ) (hw : ∀ a, ![0, 256 * w] a + S3584x256.size a ≤ S3584x2048.size a)
    (x0 : Vec F S512x3584 .fp8e4m3) (x1 : Vec F S512x128 .f32) (x2 x3 : Vec F S3584x2048 .fp8e4m3) (x4 : Vec F S1x18944 .f32) (M : Vec F S512x128 .f32) : Vec F S512x128 .f32 :=
  k0_pay19 (k0_pay15 (View.ld x0 rX) (View.ld x2 (rW w hw))) (View.ld x0 rX) (View.ld x3 (rW w hw)) (View.ld x4 (rG G k 0)) (View.ld x4 (rU G k 0)) (View.ld x1 rS) (View.ld x1 rS) M

/-- The running maximum after the last 128 columns of a chunk. -/
def step1 {i : grid0.Coords} {n : ℕ} (G : Geo i n) (k : Fin n) (w : ℕ) (hw : ∀ a, ![0, 256 * w] a + S3584x256.size a ≤ S3584x2048.size a)
    (x0 : Vec F S512x3584 .fp8e4m3) (x1 : Vec F S512x128 .f32) (x2 x3 : Vec F S3584x2048 .fp8e4m3) (x4 : Vec F S1x18944 .f32) (M : Vec F S512x128 .f32) : Vec F S512x128 .f32 :=
  k0_pay22 (k0_pay15 (View.ld x0 rX) (View.ld x2 (rW w hw))) (k0_pay16 (View.ld x0 rX) (View.ld x3 (rW w hw))) (View.ld x4 (rG G k 1)) (View.ld x4 (rU G k 1)) (View.ld x1 rS) (View.ld x1 rS) M

theorem rW_inb (k : ℕ) (h : 256 * k + 256 ≤ 2048) : ∀ a, ![0, 256 * k] a + S3584x256.size a ≤ S3584x2048.size a :=
  Fin.forall_fin_two.mpr ⟨Nat.le_refl 3584, h⟩

/-- The running maximum after `k` of the `n` chunks of a point, whose first weight columns are chunk `b` of the blocks. -/
def mxAll {i : grid0.Coords} {n : ℕ} (G : Geo i n) (b : ℕ) (hb : b + n ≤ 8)
    (x0 : Vec F S512x3584 .fp8e4m3) (x1 : Vec F S512x128 .f32) (x2 x3 : Vec F S3584x2048 .fp8e4m3) (x4 : Vec F S1x18944 .f32) (M : Vec F S512x128 .f32) : (k : ℕ) → k ≤ n → Vec F S512x128 .f32
  | 0, _ => M
  | k + 1, hk => step1 G ⟨k, hk⟩ (b + k) (rW_inb _ (by omega)) x0 x1 x2 x3 x4
      (step0 G ⟨k, hk⟩ (b + k) (rW_inb _ (by omega)) x0 x1 x2 x3 x4 (mxAll G b hb x0 x1 x2 x3 x4 M k (Nat.le_of_succ_le hk)))

/-- The running maximum as a point begins. -/
def mx0 (j : ℕ) (M : Vec F S512x128 .f32) : Vec F S512x128 .f32 := if j = 0 then k0_pay3 else M

/-- The scales of the rows of a tile, as one row of 512. -/
def sRow (M : Vec F S512x128 .f32) : Vec F S1x512 .f32 := k0_pay12 (k0_pay187 M)

theorem geoA (i : grid0.Coords) (h3 : k0_cond3 i = 1#1) : Geo i 8 := ⟨k0_off3_inb i h3, k0_off4_inb i h3⟩
theorem geoB (i : grid0.Coords) (h5 : k0_cond5 i = 1#1) : Geo i 5 := ⟨k0_off9_inb i h5, k0_off10_inb i h5⟩

theorem init_iff : ∀ i : grid0.Coords, Scalar.cmpi CmpIPredicate.ne (Scalar.extui (Scalar.cmpi CmpIPredicate.eq (BitVec.ofNat 32 ((i 1).val)) 0#32)) 0#32 = 1#1 ↔ (i 1).val = 0 := by
  decide +kernel

/-- What the first point of a tile reads of the running maximum. -/
theorem mx0_read {κ : Kind} {sp : Space} (i : grid0.Coords) (v : View sig κ sp S512x128 .f32) (f : v.ty.Contents (Elt F)) :
    v.readAt (Elt F) rS.toLoadRect
      (if hc : Scalar.cmpi CmpIPredicate.ne (Scalar.extui (Scalar.cmpi CmpIPredicate.eq (BitVec.ofNat 32 ((i 1).val)) 0#32)) 0#32 = 1#1 then
        v.writes (Elt F) f [⟨Rect.unit (s := S512x128) ![0, 0] ![512, 128] inb_S512x128_S512x128_0_0, k0_pay3⟩] else f) = mx0 (i 1).val (v.read (Elt F) f) := by
  rw [View.readAt_full v _ inb_S512x128_S512x128_0_0]
  unfold mx0
  by_cases h : (i 1).val = 0
  · rw [dif_pos ((init_iff i).mpr h), if_pos h]
    exact View.read_writes_full v f inb_S512x128_S512x128_0_0 k0_pay3 []
  · rw [dif_neg (mt (init_iff i).mp h), if_neg h]

/-- Point `j` puts the row `r` at its 512 entries of the table of scales and keeps every other entry of it. -/
def Put (j : ℕ) (r : Vec F S1x512 .f32) (Y X : Vec F S4x4096 .f32) : Prop :=
  (∀ (y : S4x4096.Idx) (x : S1x512.Idx), (y (0 : Fin 2)).val = j / 8 → (y (1 : Fin 2)).val = j % 8 * 512 + (x (1 : Fin 2)).val → X y = r x)
    ∧ ∀ y : S4x4096.Idx, (y (0 : Fin 2)).val * 8 + (y (1 : Fin 2)).val / 512 ≠ j → X y = Y y

/-- The second tile coordinate's last point, in a tile of rows. -/
theorem cond7_iff : ∀ i : grid0.Coords, k0_cond7 i = 1#1 ↔ (i 0).val < 32 ∧ (i 1).val = 4 := by decide +kernel
theorem cond3_iff : ∀ i : grid0.Coords, k0_cond3 i = 1#1 ↔ (i 0).val < 32 ∧ (i 1).val < 4 := by decide +kernel
theorem cond4_iff : ∀ i : grid0.Coords, k0_cond4 i = 1#1 ↔ (i 0).val = 32 ∧ (i 1).val < 4 := by decide +kernel
theorem cond5_iff : ∀ i : grid0.Coords, k0_cond5 i = 1#1 ↔ (i 0).val < 32 ∧ (i 1).val = 4 := by decide +kernel
theorem cond6_iff : ∀ i : grid0.Coords, k0_cond6 i = 1#1 ↔ (i 0).val = 32 ∧ (i 1).val = 4 := by decide +kernel

/-! ## The four conditions -/

theorem cond8_iff : ∀ i : grid0.Coords, k0_cond8 i = 1#1 ↔ (i 0).val / 8 = 0 := by decide +kernel
theorem off13_eq : ∀ i : grid0.Coords, k0_cond8 i = 1#1 → k0_off13 i = ![0, (i 0).val % 8 * 512] := by decide +kernel
theorem cond9_iff : ∀ i : grid0.Coords, k0_cond9 i = 1#1 ↔ (i 0).val / 8 = 1 := by decide +kernel
theorem off14_eq : ∀ i : grid0.Coords, k0_cond9 i = 1#1 → k0_off14 i = ![1, (i 0).val % 8 * 512] := by decide +kernel
theorem cond10_iff : ∀ i : grid0.Coords, k0_cond10 i = 1#1 ↔ (i 0).val / 8 = 2 := by decide +kernel
theorem off15_eq : ∀ i : grid0.Coords, k0_cond10 i = 1#1 → k0_off15 i = ![2, (i 0).val % 8 * 512] := by decide +kernel
theorem cond11_iff : ∀ i : grid0.Coords, k0_cond11 i = 1#1 ↔ (i 0).val / 8 = 3 := by decide +kernel
theorem off16_eq : ∀ i : grid0.Coords, k0_cond11 i = 1#1 → k0_off16 i = ![3, (i 0).val % 8 * 512] := by decide +kernel

/-- One store of a row at row `k`, column `q * 512` of the table is what point `k * 8 + q` puts there. -/
theorem put_of_store {κ : Kind} {sp : Space} (v : View sig κ sp S4x4096 .f32) (f : v.ty.Contents (Elt F)) {off : Fin 2 → ℕ}
    (inb : ∀ a, off a + S1x512.size a ≤ S4x4096.size a) (w : Vec F S1x512 .f32) (j : ℕ) (heq : off = ![j / 8, j % 8 * 512]) :
    Put j w (v.read (Elt F) f) (v.read (Elt F) (v.writes (Elt F) f [⟨Rect.unit (s := S4x4096) off S1x512.size inb, w⟩])) := by
  refine ⟨fun y x h0 h1 => View.read_writes_cons_unit_of_mem v f inb w [] y x heq (Fin.forall_fin_two.mpr ⟨?_, ?_⟩), fun y hy => ?_⟩
  · have hx : (x (0 : Fin 2)).val < 1 := (x (0 : Fin 2)).isLt
    show (y (0 : Fin 2)).val = j / 8 + (x (0 : Fin 2)).val
    omega
  · exact h1
  · by_cases h0 : (y (0 : Fin 2)).val = j / 8
    · refine View.read_writes_cons_unit_of_not_mem v f inb w [] y heq (1 : Fin 2) ?_
      show (y (1 : Fin 2)).val < j % 8 * 512 ∨ j % 8 * 512 + 512 ≤ (y (1 : Fin 2)).val
      omega
    · refine View.read_writes_cons_unit_of_not_mem v f inb w [] y heq (0 : Fin 2) ?_
      show (y (0 : Fin 2)).val < j / 8 ∨ j / 8 + 1 ≤ (y (0 : Fin 2)).val
      omega

/-- The four guarded stores, of which exactly one happens, put the row where point `i` puts it. -/
theorem put_cases {κ : Kind} {sp : Space} (i : grid0.Coords) (h7 : k0_cond7 i = 1#1) (v : View sig κ sp S4x4096 .f32) (f : v.ty.Contents (Elt F)) (w : Vec F S1x512 .f32) :
    Put (i 0).val w (v.read (Elt F) f) (v.read (Elt F)
      (if h4 : k0_cond11 i = 1#1 then v.writes (Elt F)
        (if h3 : k0_cond10 i = 1#1 then v.writes (Elt F)
          (if h2 : k0_cond9 i = 1#1 then v.writes (Elt F)
            (if h1 : k0_cond8 i = 1#1 then v.writes (Elt F) f [⟨Rect.unit (s := S4x4096) (k0_off13 i) S1x512.size (k0_off13_inb i h7 h1), w⟩] else f)
            [⟨Rect.unit (s := S4x4096) (k0_off14 i) S1x512.size (k0_off14_inb i h7 h2), w⟩]
          else (if h1 : k0_cond8 i = 1#1 then v.writes (Elt F) f [⟨Rect.unit (s := S4x4096) (k0_off13 i) S1x512.size (k0_off13_inb i h7 h1), w⟩] else f))
          [⟨Rect.unit (s := S4x4096) (k0_off15 i) S1x512.size (k0_off15_inb i h7 h3), w⟩]
        else (if h2 : k0_cond9 i = 1#1 then v.writes (Elt F)
            (if h1 : k0_cond8 i = 1#1 then v.writes (Elt F) f [⟨Rect.unit (s := S4x4096) (k0_off13 i) S1x512.size (k0_off13_inb i h7 h1), w⟩] else f)
            [⟨Rect.unit (s := S4x4096) (k0_off14 i) S1x512.size (k0_off14_inb i h7 h2), w⟩]
          else (if h1 : k0_cond8 i = 1#1 then v.writes (Elt F) f [⟨Rect.unit (s := S4x4096) (k0_off13 i) S1x512.size (k0_off13_inb i h7 h1), w⟩] else f)))
        [⟨Rect.unit (s := S4x4096) (k0_off16 i) S1x512.size (k0_off16_inb i h7 h4), w⟩]
      else (if h3 : k0_cond10 i = 1#1 then v.writes (Elt F)
          (if h2 : k0_cond9 i = 1#1 then v.writes (Elt F)
            (if h1 : k0_cond8 i = 1#1 then v.writes (Elt F) f [⟨Rect.unit (s := S4x4096) (k0_off13 i) S1x512.size (k0_off13_inb i h7 h1), w⟩] else f)
            [⟨Rect.unit (s := S4x4096) (k0_off14 i) S1x512.size (k0_off14_inb i h7 h2), w⟩]
          else (if h1 : k0_cond8 i = 1#1 then v.writes (Elt F) f [⟨Rect.unit (s := S4x4096) (k0_off13 i) S1x512.size (k0_off13_inb i h7 h1), w⟩] else f))
          [⟨Rect.unit (s := S4x4096) (k0_off15 i) S1x512.size (k0_off15_inb i h7 h3), w⟩]
        else (if h2 : k0_cond9 i = 1#1 then v.writes (Elt F)
            (if h1 : k0_cond8 i = 1#1 then v.writes (Elt F) f [⟨Rect.unit (s := S4x4096) (k0_off13 i) S1x512.size (k0_off13_inb i h7 h1), w⟩] else f)
            [⟨Rect.unit (s := S4x4096) (k0_off14 i) S1x512.size (k0_off14_inb i h7 h2), w⟩]
          else (if h1 : k0_cond8 i = 1#1 then v.writes (Elt F) f [⟨Rect.unit (s := S4x4096) (k0_off13 i) S1x512.size (k0_off13_inb i h7 h1), w⟩] else f))))) := by
  have hi : (i 0).val < 32 := ((cond7_iff i).mp h7).1
  have n1 := cond8_iff i; have n2 := cond9_iff i; have n3 := cond10_iff i; have n4 := cond11_iff i
  by_cases h1 : k0_cond8 i = 1#1
  · have a := n1.mp h1
    rw [dif_neg (fun h => by have := n4.mp h; omega), dif_neg (fun h => by have := n3.mp h; omega), dif_neg (fun h => by have := n2.mp h; omega), dif_pos h1]
    exact put_of_store v f _ w _ (by rw [off13_eq i h1, a])
  by_cases h2 : k0_cond9 i = 1#1
  · have a := n2.mp h2
    rw [dif_neg (fun h => by have := n4.mp h; omega), dif_neg (fun h => by have := n3.mp h; omega), dif_pos h2, dif_neg h1]
    exact put_of_store v f _ w _ (by rw [off14_eq i h2, a])
  by_cases h3 : k0_cond10 i = 1#1
  · have a := n3.mp h3
    rw [dif_neg (fun h => by have := n4.mp h; omega), dif_pos h3, dif_neg h2, dif_neg h1]
    exact put_of_store v f _ w _ (by rw [off15_eq i h3, a])
  · have h4 : k0_cond11 i = 1#1 := n4.mpr (by
      have b1 := mt n1.mpr h1; have b2 := mt n2.mpr h2; have b3 := mt n3.mpr h3; omega)
    have a := n4.mp h4
    rw [dif_pos h4, dif_neg h3, dif_neg h2, dif_neg h1]
    exact put_of_store v f _ w _ (by rw [off16_eq i h4, a])

end Cert.GateUpIdeal.Hand

end
-- ==== Proof.GateUpI.RunA.lean ====
/- The body of the gate-and-up call, one of its four kinds of point. -/
module

public import proofs.«01_k».proof.Proof.GateUpI.Base
public import proofs.«01_k».proof.Proof.Gen.GateUpIdeal.Skeleton
public import Idealize.ShloMosaic.Lib.Claim
public import Idealize.ShloMosaic.Lib.WritesUnit

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.GateUpIdeal.Gen

variable {F : FTy → Type} [FloatOps F]

set_option maxHeartbeats 16000000 in
/-- An inner point in a tile of rows: every column chunk goes into the running maximum; the table is kept. -/
theorem runA (c : Dev nD) (E : Set ℕ) (i : grid0.Coords) (h3 : k0_cond3 i = 1#1) (arg2 : Memref sig .tc .vmem S512x3584 .fp8e4m3) (harg2 : arg2.IsWhole) (arg3 : Memref sig .tc .vmem S512x128 .f32) (harg3 : arg3.IsWhole) (arg4 : Memref sig .tc .vmem S3584x2048 .fp8e4m3) (harg4 : arg4.IsWhole) (arg5 : Memref sig .tc .vmem S3584x2048 .fp8e4m3) (harg5 : arg5.IsWhole) (arg6 : Memref sig .tc .vmem S1x18944 .f32) (harg6 : arg6.IsWhole) (arg7 : Memref sig .tc .vmem S512x2048 .fp8e4m3) (harg7 : arg7.IsWhole) (arg8 : Memref sig .tc .vmem S4x4096 .f32) (harg8 : arg8.IsWhole) (arg9 : Memref sig .tc .vmem S512x128 .f32) (harg9 : arg9.IsWhole) (arg10 : Memref sig .tc .vmem S37x512x256 .f32) (harg10 : arg10.IsWhole) (arg11 : Memref sig .tc .vmem S512x128 .f32) (harg11 : arg11.IsWhole) (arg12 : Memref sig .tc .vmem S512x128 .f32) (harg12 : arg12.IsWhole)
    (x0 : Vec F S512x3584 .fp8e4m3) (x1 : Vec F S512x128 .f32) (x2 : Vec F S3584x2048 .fp8e4m3) (x3 : Vec F S3584x2048 .fp8e4m3) (x4 : Vec F S1x18944 .f32) (Y : Vec F S4x4096 .f32) (M : Vec F S512x128 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare Y ∗ (∃ d, owns (c : Thread nD τ) arg9 fullShare d) ∗ (∃ d, owns (c : Thread nD τ) arg10 fullShare d) ∗ owns (c : Thread nD τ) arg11 fullShare M ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare Y ∗ (∃ d, owns (c : Thread nD τ) arg9 fullShare d) ∗ (∃ d, owns (c : Thread nD τ) arg10 fullShare d) ∗ owns (c : Thread nD τ) arg11 fullShare (mxAll (geoA i h3) 0 (by omega) x0 x1 x2 x3 x4 (mx0 (i 1).val M) 8 (Nat.le_refl 8)) ∗ (∃ d, owns (c : Thread nD τ) arg12 fullShare d)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  have h := (cond3_iff i).mp h3
  have n4 : ¬ k0_cond4 i = 1#1 := fun e => by have := (cond4_iff i).mp e; omega
  have n5 : ¬ k0_cond5 i = 1#1 := fun e => by have := (cond5_iff i).mp e; omega
  have n6 : ¬ k0_cond6 i = 1#1 := fun e => by have := (cond6_iff i).mp e; omega
  have n7 : ¬ k0_cond7 i = 1#1 := fun e => by have := (cond7_iff i).mp e; omega
  simp only [dif_pos h3, dif_neg n4, dif_neg n5, dif_neg n6, dif_neg n7]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%f9, %hf9, H9⟩, ⟨%d10, %f10, -, H10⟩, Hk⟩
  subst hf0 hf1 hf2 hf3 hf4 hf6 hf9
  sl_exec
  sl_step
  iapply Hk
  have e0 : runA.sl.v91 c i arg11 f9 = (mx0 (i 1).val (arg11.view.read (Elt F) f9)) := mx0_read i arg11.view f9
  have e1 : runA.sl.v123 c i h3 arg2 arg3 arg4 arg5 arg6 arg11 f0 f1 f2 f3 f4 f9 = step0 (geoA i h3) 0 0 (rW_inb _ (by omega)) (arg2.view.read (Elt F) f0) (arg3.view.read (Elt F) f1) (arg4.view.read (Elt F) f2) (arg5.view.read (Elt F) f3) (arg6.view.read (Elt F) f4) (runA.sl.v91 c i arg11 f9) := View.readCov_full _ _ _ _ _
  have e2 : runA.sl.v189 c i h3 arg2 arg3 arg4 arg5 arg6 arg11 f0 f1 f2 f3 f4 f9 = step1 (geoA i h3) 0 0 (rW_inb _ (by omega)) (arg2.view.read (Elt F) f0) (arg3.view.read (Elt F) f1) (arg4.view.read (Elt F) f2) (arg5.view.read (Elt F) f3) (arg6.view.read (Elt F) f4) (runA.sl.v123 c i h3 arg2 arg3 arg4 arg5 arg6 arg11 f0 f1 f2 f3 f4 f9) := View.readCov_full _ _ _ _ _
  have e3 : runA.sl.v221 c i h3 arg2 arg3 arg4 arg5 arg6 arg11 f0 f1 f2 f3 f4 f9 = step0 (geoA i h3) 1 1 (rW_inb _ (by omega)) (arg2.view.read (Elt F) f0) (arg3.view.read (Elt F) f1) (arg4.view.read (Elt F) f2) (arg5.view.read (Elt F) f3) (arg6.view.read (Elt F) f4) (runA.sl.v189 c i h3 arg2 arg3 arg4 arg5 arg6 arg11 f0 f1 f2 f3 f4 f9) := View.readCov_full _ _ _ _ _
  have e4 : runA.sl.v287 c i h3 arg2 arg3 arg4 arg5 arg6 arg11 f0 f1 f2 f3 f4 f9 = step1 (geoA i h3) 1 1 (rW_inb _ (by omega)) (arg2.view.read (Elt F) f0) (arg3.view.read (Elt F) f1) (arg4.view.read (Elt F) f2) (arg5.view.read (Elt F) f3) (arg6.view.read (Elt F) f4) (runA.sl.v221 c i h3 arg2 arg3 arg4 arg5 arg6 arg11 f0 f1 f2 f3 f4 f9) := View.readCov_full _ _ _ _ _
  have e5 : runA.sl.v319 c i h3 arg2 arg3 arg4 arg5 arg6 arg11 f0 f1 f2 f3 f4 f9 = step0 (geoA i h3) 2 2 (rW_inb _ (by omega)) (arg2.view.read (Elt F) f0) (arg3.view.read (Elt F) f1) (arg4.view.read (Elt F) f2) (arg5.view.read (Elt F) f3) (arg6.view.read (Elt F) f4) (runA.sl.v287 c i h3 arg2 arg3 arg4 arg5 arg6 arg11 f0 f1 f2 f3 f4 f9) := View.readCov_full _ _ _ _ _
  have e6 : runA.sl.v385 c i h3 arg2 arg3 arg4 arg5 arg6 arg11 f0 f1 f2 f3 f4 f9 = step1 (geoA i h3) 2 2 (rW_inb _ (by omega)) (arg2.view.read (Elt F) f0) (arg3.view.read (Elt F) f1) (arg4.view.read (Elt F) f2) (arg5.view.read (Elt F) f3) (arg6.view.read (Elt F) f4) (runA.sl.v319 c i h3 arg2 arg3 arg4 arg5 arg6 arg11 f0 f1 f2 f3 f4 f9) := View.readCov_full _ _ _ _ _
  have e7 : runA.sl.v417 c i h3 arg2 arg3 arg4 arg5 arg6 arg11 f0 f1 f2 f3 f4 f9 = step0 (geoA i h3) 3 3 (rW_inb _ (by omega)) (arg2.view.read (Elt F) f0) (arg3.view.read (Elt F) f1) (arg4.view.read (Elt F) f2) (arg5.view.read (Elt F) f3) (arg6.view.read (Elt F) f4) (runA.sl.v385 c i h3 arg2 arg3 arg4 arg5 arg6 arg11 f0 f1 f2 f3 f4 f9) := View.readCov_full _ _ _ _ _
  have e8 : runA.sl.v483 c i h3 arg2 arg3 arg4 arg5 arg6 arg11 f0 f1 f2 f3 f4 f9 = step1 (geoA i h3) 3 3 (rW_inb _ (by omega)) (arg2.view.read (Elt F) f0) (arg3.view.read (Elt F) f1) (arg4.view.read (Elt F) f2) (arg5.view.read (Elt F) f3) (arg6.view.read (Elt F) f4) (runA.sl.v417 c i h3 arg2 arg3 arg4 arg5 arg6 arg11 f0 f1 f2 f3 f4 f9) := View.readCov_full _ _ _ _ _
  have e9 : runA.sl.v515 c i h3 arg2 arg3 arg4 arg5 arg6 arg11 f0 f1 f2 f3 f4 f9 = step0 (geoA i h3) 4 4 (rW_inb _ (by omega)) (arg2.view.read (Elt F) f0) (arg3.view.read (Elt F) f1) (arg4.view.read (Elt F) f2) (arg5.view.read (Elt F) f3) (arg6.view.read (Elt F) f4) (runA.sl.v483 c i h3 arg2 arg3 arg4 arg5 arg6 arg11 f0 f1 f2 f3 f4 f9) := View.readCov_full _ _ _ _ _
  have e10 : runA.sl.v581 c i h3 arg2 arg3 arg4 arg5 arg6 arg11 f0 f1 f2 f3 f4 f9 = step1 (geoA i h3) 4 4 (rW_inb _ (by omega)) (arg2.view.read (Elt F) f0) (arg3.view.read (Elt F) f1) (arg4.view.read (Elt F) f2) (arg5.view.read (Elt F) f3) (arg6.view.read (Elt F) f4) (runA.sl.v515 c i h3 arg2 arg3 arg4 arg5 arg6 arg11 f0 f1 f2 f3 f4 f9) := View.readCov_full _ _ _ _ _
  have e11 : runA.sl.v613 c i h3 arg2 arg3 arg4 arg5 arg6 arg11 f0 f1 f2 f3 f4 f9 = step0 (geoA i h3) 5 5 (rW_inb _ (by omega)) (arg2.view.read (Elt F) f0) (arg3.view.read (Elt F) f1) (arg4.view.read (Elt F) f2) (arg5.view.read (Elt F) f3) (arg6.view.read (Elt F) f4) (runA.sl.v581 c i h3 arg2 arg3 arg4 arg5 arg6 arg11 f0 f1 f2 f3 f4 f9) := View.readCov_full _ _ _ _ _
  have e12 : runA.sl.v679 c i h3 arg2 arg3 arg4 arg5 arg6 arg11 f0 f1 f2 f3 f4 f9 = step1 (geoA i h3) 5 5 (rW_inb _ (by omega)) (arg2.view.read (Elt F) f0) (arg3.view.read (Elt F) f1) (arg4.view.read (Elt F) f2) (arg5.view.read (Elt F) f3) (arg6.view.read (Elt F) f4) (runA.sl.v613 c i h3 arg2 arg3 arg4 arg5 arg6 arg11 f0 f1 f2 f3 f4 f9) := View.readCov_full _ _ _ _ _
  have e13 : runA.sl.v711 c i h3 arg2 arg3 arg4 arg5 arg6 arg11 f0 f1 f2 f3 f4 f9 = step0 (geoA i h3) 6 6 (rW_inb _ (by omega)) (arg2.view.read (Elt F) f0) (arg3.view.read (Elt F) f1) (arg4.view.read (Elt F) f2) (arg5.view.read (Elt F) f3) (arg6.view.read (Elt F) f4) (runA.sl.v679 c i h3 arg2 arg3 arg4 arg5 arg6 arg11 f0 f1 f2 f3 f4 f9) := View.readCov_full _ _ _ _ _
  have e14 : runA.sl.v777 c i h3 arg2 arg3 arg4 arg5 arg6 arg11 f0 f1 f2 f3 f4 f9 = step1 (geoA i h3) 6 6 (rW_inb _ (by omega)) (arg2.view.read (Elt F) f0) (arg3.view.read (Elt F) f1) (arg4.view.read (Elt F) f2) (arg5.view.read (Elt F) f3) (arg6.view.read (Elt F) f4) (runA.sl.v711 c i h3 arg2 arg3 arg4 arg5 arg6 arg11 f0 f1 f2 f3 f4 f9) := View.readCov_full _ _ _ _ _
  have e15 : runA.sl.v809 c i h3 arg2 arg3 arg4 arg5 arg6 arg11 f0 f1 f2 f3 f4 f9 = step0 (geoA i h3) 7 7 (rW_inb _ (by omega)) (arg2.view.read (Elt F) f0) (arg3.view.read (Elt F) f1) (arg4.view.read (Elt F) f2) (arg5.view.read (Elt F) f3) (arg6.view.read (Elt F) f4) (runA.sl.v777 c i h3 arg2 arg3 arg4 arg5 arg6 arg11 f0 f1 f2 f3 f4 f9) := View.readCov_full _ _ _ _ _
  have hMM : step1 (geoA i h3) 7 7 (rW_inb _ (by omega)) (arg2.view.read (Elt F) f0) (arg3.view.read (Elt F) f1) (arg4.view.read (Elt F) f2) (arg5.view.read (Elt F) f3) (arg6.view.read (Elt F) f4) (runA.sl.v809 c i h3 arg2 arg3 arg4 arg5 arg6 arg11 f0 f1 f2 f3 f4 f9) = mxAll (geoA i h3) 0 (by omega) (arg2.view.read (Elt F) f0) (arg3.view.read (Elt F) f1) (arg4.view.read (Elt F) f2) (arg5.view.read (Elt F) f3) (arg6.view.read (Elt F) f4) (mx0 (i 1).val (arg11.view.read (Elt F) f9)) 8 (Nat.le_refl 8) := by
    rw [e15, e14, e13, e12, e11, e10, e9, e8, e7, e6, e5, e4, e3, e2, e1, e0]; rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexists _; isplitr
    swap; · iexact H5
    ipureintro; rfl
  isplitl [H6]
  · iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; isplitr
    swap; · iexact H9
    ipureintro
    exact (View.read_writes_full _ _ _ _ _).trans hMM
  iexists _; iexists _; isplitr
  swap; · iexact H10
  ipureintro; rfl

end Cert.GateUpIdeal.Hand

end
-- ==== Proof.GateUpI.RunB.lean ====
/- The body of the gate-and-up call, one of its four kinds of point. -/
module

public import proofs.«01_k».proof.Proof.GateUpI.Base
public import proofs.«01_k».proof.Proof.Gen.GateUpIdeal.Skeleton
public import Idealize.ShloMosaic.Lib.Claim
public import Idealize.ShloMosaic.Lib.WritesUnit

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.GateUpIdeal.Gen

variable {F : FTy → Type} [FloatOps F]

set_option maxHeartbeats 16000000 in
/-- The last point in a tile of rows: the last column chunks go into the running maximum, and the scales of the tile go into the table. -/
theorem runB (c : Dev nD) (E : Set ℕ) (i : grid0.Coords) (h5 : k0_cond5 i = 1#1) (arg2 : Memref sig .tc .vmem S512x3584 .fp8e4m3) (harg2 : arg2.IsWhole) (arg3 : Memref sig .tc .vmem S512x128 .f32) (harg3 : arg3.IsWhole) (arg4 : Memref sig .tc .vmem S3584x2048 .fp8e4m3) (harg4 : arg4.IsWhole) (arg5 : Memref sig .tc .vmem S3584x2048 .fp8e4m3) (harg5 : arg5.IsWhole) (arg6 : Memref sig .tc .vmem S1x18944 .f32) (harg6 : arg6.IsWhole) (arg7 : Memref sig .tc .vmem S512x2048 .fp8e4m3) (harg7 : arg7.IsWhole) (arg8 : Memref sig .tc .vmem S4x4096 .f32) (harg8 : arg8.IsWhole) (arg9 : Memref sig .tc .vmem S512x128 .f32) (harg9 : arg9.IsWhole) (arg10 : Memref sig .tc .vmem S37x512x256 .f32) (harg10 : arg10.IsWhole) (arg11 : Memref sig .tc .vmem S512x128 .f32) (harg11 : arg11.IsWhole) (arg12 : Memref sig .tc .vmem S512x128 .f32) (harg12 : arg12.IsWhole)
    (x0 : Vec F S512x3584 .fp8e4m3) (x1 : Vec F S512x128 .f32) (x2 : Vec F S3584x2048 .fp8e4m3) (x3 : Vec F S3584x2048 .fp8e4m3) (x4 : Vec F S1x18944 .f32) (Y : Vec F S4x4096 .f32) (M : Vec F S512x128 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare Y ∗ (∃ d, owns (c : Thread nD τ) arg9 fullShare d) ∗ (∃ d, owns (c : Thread nD τ) arg10 fullShare d) ∗ owns (c : Thread nD τ) arg11 fullShare M ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ X, ⌜Put (i 0).val (sRow (mxAll (geoB i h5) 3 (by omega) x0 x1 x2 x3 x4 (mx0 (i 1).val M) 5 (Nat.le_refl 5))) Y X⌝ ∗ owns (c : Thread nD τ) arg8 fullShare X) ∗ (∃ d, owns (c : Thread nD τ) arg9 fullShare d) ∗ (∃ d, owns (c : Thread nD τ) arg10 fullShare d) ∗ owns (c : Thread nD τ) arg11 fullShare (mxAll (geoB i h5) 3 (by omega) x0 x1 x2 x3 x4 (mx0 (i 1).val M) 5 (Nat.le_refl 5)) ∗ (∃ d, owns (c : Thread nD τ) arg12 fullShare d)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  have h := (cond5_iff i).mp h5
  have n3 : ¬ k0_cond3 i = 1#1 := fun e => by have := (cond3_iff i).mp e; omega
  have n4 : ¬ k0_cond4 i = 1#1 := fun e => by have := (cond4_iff i).mp e; omega
  have n6 : ¬ k0_cond6 i = 1#1 := fun e => by have := (cond6_iff i).mp e; omega
  have h7 : k0_cond7 i = 1#1 := (cond7_iff i).mpr h
  simp only [dif_neg n3, dif_neg n4, dif_pos h5, dif_neg n6, dif_pos h7]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%f9, %hf9, H9⟩, ⟨%d10, %f10, -, H10⟩, Hk⟩
  subst hf0 hf1 hf2 hf3 hf4 hf6 hf9
  sl_exec
  sl_step
  iapply Hk
  have e0 : runB.sl.v91 c i arg11 f9 = (mx0 (i 1).val (arg11.view.read (Elt F) f9)) := mx0_read i arg11.view f9
  have e1 : runB.sl.v123 c i h5 arg2 arg3 arg4 arg5 arg6 arg11 f0 f1 f2 f3 f4 f9 = step0 (geoB i h5) 0 3 (rW_inb _ (by omega)) (arg2.view.read (Elt F) f0) (arg3.view.read (Elt F) f1) (arg4.view.read (Elt F) f2) (arg5.view.read (Elt F) f3) (arg6.view.read (Elt F) f4) (runB.sl.v91 c i arg11 f9) := View.readCov_full _ _ _ _ _
  have e2 : runB.sl.v189 c i h5 arg2 arg3 arg4 arg5 arg6 arg11 f0 f1 f2 f3 f4 f9 = step1 (geoB i h5) 0 3 (rW_inb _ (by omega)) (arg2.view.read (Elt F) f0) (arg3.view.read (Elt F) f1) (arg4.view.read (Elt F) f2) (arg5.view.read (Elt F) f3) (arg6.view.read (Elt F) f4) (runB.sl.v123 c i h5 arg2 arg3 arg4 arg5 arg6 arg11 f0 f1 f2 f3 f4 f9) := View.readCov_full _ _ _ _ _
  have e3 : runB.sl.v221 c i h5 arg2 arg3 arg4 arg5 arg6 arg11 f0 f1 f2 f3 f4 f9 = step0 (geoB i h5) 1 4 (rW_inb _ (by omega)) (arg2.view.read (Elt F) f0) (arg3.view.read (Elt F) f1) (arg4.view.read (Elt F) f2) (arg5.view.read (Elt F) f3) (arg6.view.read (Elt F) f4) (runB.sl.v189 c i h5 arg2 arg3 arg4 arg5 arg6 arg11 f0 f1 f2 f3 f4 f9) := View.readCov_full _ _ _ _ _
  have e4 : runB.sl.v287 c i h5 arg2 arg3 arg4 arg5 arg6 arg11 f0 f1 f2 f3 f4 f9 = step1 (geoB i h5) 1 4 (rW_inb _ (by omega)) (arg2.view.read (Elt F) f0) (arg3.view.read (Elt F) f1) (arg4.view.read (Elt F) f2) (arg5.view.read (Elt F) f3) (arg6.view.read (Elt F) f4) (runB.sl.v221 c i h5 arg2 arg3 arg4 arg5 arg6 arg11 f0 f1 f2 f3 f4 f9) := View.readCov_full _ _ _ _ _
  have e5 : runB.sl.v319 c i h5 arg2 arg3 arg4 arg5 arg6 arg11 f0 f1 f2 f3 f4 f9 = step0 (geoB i h5) 2 5 (rW_inb _ (by omega)) (arg2.view.read (Elt F) f0) (arg3.view.read (Elt F) f1) (arg4.view.read (Elt F) f2) (arg5.view.read (Elt F) f3) (arg6.view.read (Elt F) f4) (runB.sl.v287 c i h5 arg2 arg3 arg4 arg5 arg6 arg11 f0 f1 f2 f3 f4 f9) := View.readCov_full _ _ _ _ _
  have e6 : runB.sl.v385 c i h5 arg2 arg3 arg4 arg5 arg6 arg11 f0 f1 f2 f3 f4 f9 = step1 (geoB i h5) 2 5 (rW_inb _ (by omega)) (arg2.view.read (Elt F) f0) (arg3.view.read (Elt F) f1) (arg4.view.read (Elt F) f2) (arg5.view.read (Elt F) f3) (arg6.view.read (Elt F) f4) (runB.sl.v319 c i h5 arg2 arg3 arg4 arg5 arg6 arg11 f0 f1 f2 f3 f4 f9) := View.readCov_full _ _ _ _ _
  have e7 : runB.sl.v417 c i h5 arg2 arg3 arg4 arg5 arg6 arg11 f0 f1 f2 f3 f4 f9 = step0 (geoB i h5) 3 6 (rW_inb _ (by omega)) (arg2.view.read (Elt F) f0) (arg3.view.read (Elt F) f1) (arg4.view.read (Elt F) f2) (arg5.view.read (Elt F) f3) (arg6.view.read (Elt F) f4) (runB.sl.v385 c i h5 arg2 arg3 arg4 arg5 arg6 arg11 f0 f1 f2 f3 f4 f9) := View.readCov_full _ _ _ _ _
  have e8 : runB.sl.v483 c i h5 arg2 arg3 arg4 arg5 arg6 arg11 f0 f1 f2 f3 f4 f9 = step1 (geoB i h5) 3 6 (rW_inb _ (by omega)) (arg2.view.read (Elt F) f0) (arg3.view.read (Elt F) f1) (arg4.view.read (Elt F) f2) (arg5.view.read (Elt F) f3) (arg6.view.read (Elt F) f4) (runB.sl.v417 c i h5 arg2 arg3 arg4 arg5 arg6 arg11 f0 f1 f2 f3 f4 f9) := View.readCov_full _ _ _ _ _
  have e9 : runB.sl.v515 c i h5 arg2 arg3 arg4 arg5 arg6 arg11 f0 f1 f2 f3 f4 f9 = step0 (geoB i h5) 4 7 (rW_inb _ (by omega)) (arg2.view.read (Elt F) f0) (arg3.view.read (Elt F) f1) (arg4.view.read (Elt F) f2) (arg5.view.read (Elt F) f3) (arg6.view.read (Elt F) f4) (runB.sl.v483 c i h5 arg2 arg3 arg4 arg5 arg6 arg11 f0 f1 f2 f3 f4 f9) := View.readCov_full _ _ _ _ _
  have e10 : runB.sl.v31 c i h5 arg2 arg3 arg4 arg5 arg6 arg11 f0 f1 f2 f3 f4 f9 = step1 (geoB i h5) 4 7 (rW_inb _ (by omega)) (arg2.view.read (Elt F) f0) (arg3.view.read (Elt F) f1) (arg4.view.read (Elt F) f2) (arg5.view.read (Elt F) f3) (arg6.view.read (Elt F) f4) (runB.sl.v515 c i h5 arg2 arg3 arg4 arg5 arg6 arg11 f0 f1 f2 f3 f4 f9) := View.readCov_full _ _ _ _ _
  have hMM : step1 (geoB i h5) 4 7 (rW_inb _ (by omega)) (arg2.view.read (Elt F) f0) (arg3.view.read (Elt F) f1) (arg4.view.read (Elt F) f2) (arg5.view.read (Elt F) f3) (arg6.view.read (Elt F) f4) (runB.sl.v515 c i h5 arg2 arg3 arg4 arg5 arg6 arg11 f0 f1 f2 f3 f4 f9) = mxAll (geoB i h5) 3 (by omega) (arg2.view.read (Elt F) f0) (arg3.view.read (Elt F) f1) (arg4.view.read (Elt F) f2) (arg5.view.read (Elt F) f3) (arg6.view.read (Elt F) f4) (mx0 (i 1).val (arg11.view.read (Elt F) f9)) 5 (Nat.le_refl 5) := by
    rw [e9, e8, e7, e6, e5, e4, e3, e2, e1, e0]; rfl
  have er : runB.sl.r_19 c i h5 arg2 arg3 arg4 arg5 arg6 arg11 f0 f1 f2 f3 f4 f9 = k0_pay187 (mxAll (geoB i h5) 3 (by omega) (arg2.view.read (Elt F) f0) (arg3.view.read (Elt F) f1) (arg4.view.read (Elt F) f2) (arg5.view.read (Elt F) f3) (arg6.view.read (Elt F) f4) (mx0 (i 1).val (arg11.view.read (Elt F) f9)) 5 (Nat.le_refl 5)) := congrArg k0_pay187 (e10.trans hMM)
  rw [er]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexists _; isplitr
    swap; · iexact H5
    ipureintro; rfl
  isplitl [H6]
  · iexists _; isplitr
    swap
    · iexists _; isplitr
      swap; · iexact H6
      ipureintro; rfl
    ipureintro
    exact put_cases i h7 arg8.view f6 _
  isplitl [H7]
  · iexists _; iexists _; isplitr
    swap; · iexact H7
    ipureintro; rfl
  isplitl [H8]
  · iexists _; iexists _; isplitr
    swap; · iexact H8
    ipureintro; rfl
  isplitl [H9]
  · iexists _; isplitr
    swap; · iexact H9
    ipureintro
    exact (View.read_writes_full _ _ _ _ _).trans hMM
  iexists _; iexists _; isplitr
  swap; · iexact H10
  ipureintro; rfl

end Cert.GateUpIdeal.Hand

end
-- ==== Proof.GateUpI.RunC.lean ====
/- The body of the gate-and-up call, one of its four kinds of point. -/
module

public import proofs.«01_k».proof.Proof.GateUpI.Base
public import proofs.«01_k».proof.Proof.Gen.GateUpIdeal.Skeleton
public import Idealize.ShloMosaic.Lib.Claim
public import Idealize.ShloMosaic.Lib.WritesUnit

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.GateUpIdeal.Gen

variable {F : FTy → Type} [FloatOps F]

set_option maxHeartbeats 16000000 in
/-- An inner point after the last tile of rows: the table is kept. -/
theorem runC (c : Dev nD) (E : Set ℕ) (i : grid0.Coords) (h4 : k0_cond4 i = 1#1) (arg2 : Memref sig .tc .vmem S512x3584 .fp8e4m3) (harg2 : arg2.IsWhole) (arg3 : Memref sig .tc .vmem S512x128 .f32) (harg3 : arg3.IsWhole) (arg4 : Memref sig .tc .vmem S3584x2048 .fp8e4m3) (harg4 : arg4.IsWhole) (arg5 : Memref sig .tc .vmem S3584x2048 .fp8e4m3) (harg5 : arg5.IsWhole) (arg6 : Memref sig .tc .vmem S1x18944 .f32) (harg6 : arg6.IsWhole) (arg7 : Memref sig .tc .vmem S512x2048 .fp8e4m3) (harg7 : arg7.IsWhole) (arg8 : Memref sig .tc .vmem S4x4096 .f32) (harg8 : arg8.IsWhole) (arg9 : Memref sig .tc .vmem S512x128 .f32) (harg9 : arg9.IsWhole) (arg10 : Memref sig .tc .vmem S37x512x256 .f32) (harg10 : arg10.IsWhole) (arg11 : Memref sig .tc .vmem S512x128 .f32) (harg11 : arg11.IsWhole) (arg12 : Memref sig .tc .vmem S512x128 .f32) (harg12 : arg12.IsWhole)
    (x0 : Vec F S512x3584 .fp8e4m3) (x1 : Vec F S512x128 .f32) (x2 : Vec F S3584x2048 .fp8e4m3) (x3 : Vec F S3584x2048 .fp8e4m3) (x4 : Vec F S1x18944 .f32) (Y : Vec F S4x4096 .f32) (M : Vec F S512x128 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare Y ∗ (∃ d, owns (c : Thread nD τ) arg9 fullShare d) ∗ (∃ d, owns (c : Thread nD τ) arg10 fullShare d) ∗ owns (c : Thread nD τ) arg11 fullShare M ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare Y ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  have h := (cond4_iff i).mp h4
  have n3 : ¬ k0_cond3 i = 1#1 := fun e => by have := (cond3_iff i).mp e; omega
  have n5 : ¬ k0_cond5 i = 1#1 := fun e => by have := (cond5_iff i).mp e; omega
  have n6 : ¬ k0_cond6 i = 1#1 := fun e => by have := (cond6_iff i).mp e; omega
  have n7 : ¬ k0_cond7 i = 1#1 := fun e => by have := (cond7_iff i).mp e; omega
  simp only [dif_neg n3, dif_pos h4, dif_neg n5, dif_neg n6, dif_neg n7]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%f9, %hf9, H9⟩, ⟨%d10, %f10, -, H10⟩, Hk⟩
  subst hf0 hf1 hf2 hf3 hf4 hf6 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexists _; isplitr
    swap; · iexact H5
    ipureintro; rfl
  isplitl [H6]
  · iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

end Cert.GateUpIdeal.Hand

end
-- ==== Proof.GateUpI.RunD.lean ====
/- The body of the gate-and-up call, one of its four kinds of point. -/
module

public import proofs.«01_k».proof.Proof.GateUpI.Base
public import proofs.«01_k».proof.Proof.Gen.GateUpIdeal.Skeleton
public import Idealize.ShloMosaic.Lib.Claim
public import Idealize.ShloMosaic.Lib.WritesUnit

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.GateUpIdeal.Gen

variable {F : FTy → Type} [FloatOps F]

set_option maxHeartbeats 16000000 in
/-- The last point: the table is kept. -/
theorem runD (c : Dev nD) (E : Set ℕ) (i : grid0.Coords) (h6 : k0_cond6 i = 1#1) (arg2 : Memref sig .tc .vmem S512x3584 .fp8e4m3) (harg2 : arg2.IsWhole) (arg3 : Memref sig .tc .vmem S512x128 .f32) (harg3 : arg3.IsWhole) (arg4 : Memref sig .tc .vmem S3584x2048 .fp8e4m3) (harg4 : arg4.IsWhole) (arg5 : Memref sig .tc .vmem S3584x2048 .fp8e4m3) (harg5 : arg5.IsWhole) (arg6 : Memref sig .tc .vmem S1x18944 .f32) (harg6 : arg6.IsWhole) (arg7 : Memref sig .tc .vmem S512x2048 .fp8e4m3) (harg7 : arg7.IsWhole) (arg8 : Memref sig .tc .vmem S4x4096 .f32) (harg8 : arg8.IsWhole) (arg9 : Memref sig .tc .vmem S512x128 .f32) (harg9 : arg9.IsWhole) (arg10 : Memref sig .tc .vmem S37x512x256 .f32) (harg10 : arg10.IsWhole) (arg11 : Memref sig .tc .vmem S512x128 .f32) (harg11 : arg11.IsWhole) (arg12 : Memref sig .tc .vmem S512x128 .f32) (harg12 : arg12.IsWhole)
    (x0 : Vec F S512x3584 .fp8e4m3) (x1 : Vec F S512x128 .f32) (x2 : Vec F S3584x2048 .fp8e4m3) (x3 : Vec F S3584x2048 .fp8e4m3) (x4 : Vec F S1x18944 .f32) (Y : Vec F S4x4096 .f32) (M : Vec F S512x128 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare Y ∗ (∃ d, owns (c : Thread nD τ) arg9 fullShare d) ∗ (∃ d, owns (c : Thread nD τ) arg10 fullShare d) ∗ owns (c : Thread nD τ) arg11 fullShare M ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare Y ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K := by
  simp only [cc0_gate_up_eq_skeleton]; unfold cc0_gate_up_skel
  have h := (cond6_iff i).mp h6
  have n3 : ¬ k0_cond3 i = 1#1 := fun e => by have := (cond3_iff i).mp e; omega
  have n4 : ¬ k0_cond4 i = 1#1 := fun e => by have := (cond4_iff i).mp e; omega
  have n5 : ¬ k0_cond5 i = 1#1 := fun e => by have := (cond5_iff i).mp e; omega
  have n7 : ¬ k0_cond7 i = 1#1 := fun e => by have := (cond7_iff i).mp e; omega
  simp only [dif_neg n3, dif_neg n4, dif_neg n5, dif_pos h6, dif_neg n7]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%f9, %hf9, H9⟩, ⟨%d10, %f10, -, H10⟩, Hk⟩
  subst hf0 hf1 hf2 hf3 hf4 hf6 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexists _; isplitr
    swap; · iexact H5
    ipureintro; rfl
  isplitl [H6]
  · iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

end Cert.GateUpIdeal.Hand

end
-- ==== Proof.GateUpI.Body.lean ====
/- The body of the gate-and-up call at any point. -/
module

public import proofs.«01_k».proof.Proof.GateUpI.RunA
public import proofs.«01_k».proof.Proof.GateUpI.RunB
public import proofs.«01_k».proof.Proof.GateUpI.RunC
public import proofs.«01_k».proof.Proof.GateUpI.RunD
public import proofs.«01_k».proof.Proof.Gen.GateUpIdeal.Skeleton
public import Idealize.ShloMosaic.Lib.Claim
public import Idealize.ShloMosaic.Lib.WritesUnit

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.GateUpIdeal.Gen

variable {F : FTy → Type} [FloatOps F]

/-- The running maximum which a point leaves. -/
def stepG (i : grid0.Coords) (x0 : Vec F S512x3584 .fp8e4m3) (x1 : Vec F S512x128 .f32) (x2 x3 : Vec F S3584x2048 .fp8e4m3) (x4 : Vec F S1x18944 .f32) (M : Vec F S512x128 .f32) : Vec F S512x128 .f32 :=
  if h3 : k0_cond3 i = 1#1 then mxAll (geoA i h3) 0 (by omega) x0 x1 x2 x3 x4 (mx0 (i 1).val M) 8 (Nat.le_refl 8)
  else if h5 : k0_cond5 i = 1#1 then mxAll (geoB i h5) 3 (by omega) x0 x1 x2 x3 x4 (mx0 (i 1).val M) 5 (Nat.le_refl 5)
  else M

theorem stepG_A {i : grid0.Coords} (h3 : k0_cond3 i = 1#1) (x0 : Vec F S512x3584 .fp8e4m3) (x1 : Vec F S512x128 .f32) (x2 x3 : Vec F S3584x2048 .fp8e4m3) (x4 : Vec F S1x18944 .f32) (M : Vec F S512x128 .f32) :
    stepG i x0 x1 x2 x3 x4 M = mxAll (geoA i h3) 0 (by omega) x0 x1 x2 x3 x4 (mx0 (i 1).val M) 8 (Nat.le_refl 8) := by
  unfold stepG; rw [dif_pos h3]

theorem stepG_B {i : grid0.Coords} (h5 : k0_cond5 i = 1#1) (x0 : Vec F S512x3584 .fp8e4m3) (x1 : Vec F S512x128 .f32) (x2 x3 : Vec F S3584x2048 .fp8e4m3) (x4 : Vec F S1x18944 .f32) (M : Vec F S512x128 .f32) :
    stepG i x0 x1 x2 x3 x4 M = mxAll (geoB i h5) 3 (by omega) x0 x1 x2 x3 x4 (mx0 (i 1).val M) 5 (Nat.le_refl 5) := by
  unfold stepG
  rw [dif_neg (fun h => by have := (cond3_iff i).mp h; have := (cond5_iff i).mp h5; omega), dif_pos h5]

/-- What a point does to the table of scales: the last point of a tile of rows puts the tile's scales into it. -/
def Tab (i : grid0.Coords) (M : Vec F S512x128 .f32) (Y X : Vec F S4x4096 .f32) : Prop :=
  ((i 0).val < 32 ∧ (i 1).val = 4 → Put (i 0).val (sRow M) Y X) ∧ (¬ ((i 0).val < 32 ∧ (i 1).val = 4) → X = Y)

set_option maxHeartbeats 4000000 in
/-- The body at any point. -/
theorem run (c : Dev nD) (E : Set ℕ) (i : grid0.Coords) (arg2 : Memref sig .tc .vmem S512x3584 .fp8e4m3) (harg2 : arg2.IsWhole) (arg3 : Memref sig .tc .vmem S512x128 .f32) (harg3 : arg3.IsWhole) (arg4 : Memref sig .tc .vmem S3584x2048 .fp8e4m3) (harg4 : arg4.IsWhole) (arg5 : Memref sig .tc .vmem S3584x2048 .fp8e4m3) (harg5 : arg5.IsWhole) (arg6 : Memref sig .tc .vmem S1x18944 .f32) (harg6 : arg6.IsWhole) (arg7 : Memref sig .tc .vmem S512x2048 .fp8e4m3) (harg7 : arg7.IsWhole) (arg8 : Memref sig .tc .vmem S4x4096 .f32) (harg8 : arg8.IsWhole) (arg9 : Memref sig .tc .vmem S512x128 .f32) (harg9 : arg9.IsWhole) (arg10 : Memref sig .tc .vmem S37x512x256 .f32) (harg10 : arg10.IsWhole) (arg11 : Memref sig .tc .vmem S512x128 .f32) (harg11 : arg11.IsWhole) (arg12 : Memref sig .tc .vmem S512x128 .f32) (harg12 : arg12.IsWhole)
    (x0 : Vec F S512x3584 .fp8e4m3) (x1 : Vec F S512x128 .f32) (x2 : Vec F S3584x2048 .fp8e4m3) (x3 : Vec F S3584x2048 .fp8e4m3) (x4 : Vec F S1x18944 .f32) (Y : Vec F S4x4096 .f32) (M : Vec F S512x128 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare Y ∗ (∃ d, owns (c : Thread nD τ) arg9 fullShare d) ∗ (∃ d, owns (c : Thread nD τ) arg10 fullShare d) ∗ owns (c : Thread nD τ) arg11 fullShare M ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ X, ⌜Tab i (stepG i x0 x1 x2 x3 x4 M) Y X⌝ ∗ owns (c : Thread nD τ) arg8 fullShare X) ∗ (∃ d, owns (c : Thread nD τ) arg9 fullShare d) ∗ (∃ d, owns (c : Thread nD τ) arg10 fullShare d) ∗ (∃ M', ⌜(i 0).val < 32 → M' = (stepG i x0 x1 x2 x3 x4 M)⌝ ∗ owns (c : Thread nD τ) arg11 fullShare M') ∗ (∃ d, owns (c : Thread nD τ) arg12 fullShare d)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12) K := by
  have hi0 : (i 0).val < 33 := (i 0).isLt
  have hi1 : (i 1).val < 5 := (i 1).isLt
  iintro ⟨H0, H1, H2, H3, H4, H5, H6, H7, H8, H9, H10, Hk⟩
  by_cases h3 : k0_cond3 i = 1#1
  · have a := (cond3_iff i).mp h3
    iapply (runA c E i h3 _ _ _ _ _ _ _ _ _ _ _ _ _ _ _ _ _ _ _ _ _ _ x0 x1 x2 x3 x4 Y M _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexists _; isplitr; swap; (· iexact H6); ipureintro; exact ⟨fun h => by omega, fun _ => rfl⟩
    isplitl [H7]; · iexact H7
    isplitl [H8]; · iexact H8
    isplitl [H9]; · iexists _; isplitr; swap; (· iexact H9); ipureintro; exact fun _ => (stepG_A h3 _ _ _ _ _ _).symm
    iexact H10
  by_cases h5 : k0_cond5 i = 1#1
  · have a := (cond5_iff i).mp h5
    rw [stepG_B h5]
    iapply (runB c E i h5 _ _ _ _ _ _ _ _ _ _ _ _ _ _ _ _ _ _ _ _ _ _ x0 x1 x2 x3 x4 Y M _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, ⟨%X6, %hX6, H6⟩, H7, H8, H9, H10⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexists _; isplitr; swap; (· iexact H6); ipureintro; exact ⟨fun _ => hX6, fun h => absurd a h⟩
    isplitl [H7]; · iexact H7
    isplitl [H8]; · iexact H8
    isplitl [H9]; · iexists _; isplitr; swap; (· iexact H9); ipureintro; exact fun _ => rfl
    iexact H10
  by_cases h4 : k0_cond4 i = 1#1
  · have a := (cond4_iff i).mp h4
    iapply (runC c E i h4 _ _ _ _ _ _ _ _ _ _ _ _ _ _ _ _ _ _ _ _ _ _ x0 x1 x2 x3 x4 Y M _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, ⟨%X9, H9⟩, H10⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexists _; isplitr; swap; (· iexact H6); ipureintro; exact ⟨fun h => by omega, fun _ => rfl⟩
    isplitl [H7]; · iexact H7
    isplitl [H8]; · iexact H8
    isplitl [H9]; · iexists _; isplitr; swap; (· iexact H9); ipureintro; exact fun h => by omega
    iexact H10
  · have h6 : k0_cond6 i = 1#1 := (cond6_iff i).mpr (by
      have b3 := mt (cond3_iff i).mpr h3; have b4 := mt (cond4_iff i).mpr h4; have b5 := mt (cond5_iff i).mpr h5; omega)
    have a := (cond6_iff i).mp h6
    iapply (runD c E i h6 _ _ _ _ _ _ _ _ _ _ _ _ _ _ _ _ _ _ _ _ _ _ x0 x1 x2 x3 x4 Y M _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, ⟨%X9, H9⟩, H10⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexists _; isplitr; swap; (· iexact H6); ipureintro; exact ⟨fun h => by omega, fun _ => rfl⟩
    isplitl [H7]; · iexact H7
    isplitl [H8]; · iexact H8
    isplitl [H9]; · iexists _; isplitr; swap; (· iexact H9); ipureintro; exact fun h => by omega
    iexact H10

end Cert.GateUpIdeal.Hand

end
-- ==== Proof.GateUpI.Run.lean ====
/- The run of the gate-and-up call (`GateUpIdeal`): the proof data point by point, the body's obligation, and the frame claim. -/
module

public import proofs.«01_k».proof.Proof.GateUpI.Body
public import proofs.«01_k».proof.Proof.Gen.GateUpIdeal.Launch
public import Idealize.ShloMosaic.Lib.Pipeline.DatRel
public import Idealize.ShloMosaic.Lib.Pipeline.ArrRel
public import Idealize.ShloMosaic.Lib.Claim

@[expose] public section

set_option maxRecDepth 16384

noncomputable section

namespace Cert.GateUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.GateUpIdeal.Gen

variable {F : FTy → Type} [FloatOps F]

variable (m : (ℓ : Loc nD τ sig) → Buf (Elt F) ℓ) (ρ : Dev nD → PrngReg)

/-! ## The proof data -/

/-- Point `n`. -/
def pt (n : ℕ) : Fin cfg0.N := ⟨min n 164, lt_of_lt_of_eq (show min n 164 < 165 by omega) (show (165 : ℕ) = cfg0.N from N_0.symm)⟩

/-- The running maximum after a point, from the one before it. -/
def stepAt (c : Dev nD) (t : Fin cfg0.N) (M : Vec F S512x128 .f32) : Vec F S512x128 .f32 :=
  stepG (grid0.coords t) (iblk m c 0 t) (iblk m c 1 t) (iblk m c 2 t) (iblk m c 3 t) (iblk m c 4 t) M

/-- The running maximum after point `n`. -/
def mxAt (c : Dev nD) : ℕ → Vec F S512x128 .f32
  | 0 => stepAt m c (pt 0) k0_pay3
  | n + 1 => stepAt m c (pt (n + 1)) (mxAt c n)

/-- The running maximum before point `k`: after the point before it, in the tiles of rows. -/
def MxInv (c : Dev nD) (k : ℕ) (f : Vec F S512x128 .f32) : Prop := ∀ n, n + 1 = k → n < 160 → f = mxAt m c n

/-- The table of scales after point `t`: every row put by a point up to `t` is in place. -/
def Table (c : Dev nD) (t : Fin cfg0.N) (X : Vec F S4x4096 .f32) : Prop :=
  ∀ (u : ℕ) (y : S4x4096.Idx) (x : S1x512.Idx), u < 32 → 5 * u + 4 ≤ t.val → (y (0 : Fin 2)).val = u / 8 →
    (y (1 : Fin 2)).val = u % 8 * 512 + (x (1 : Fin 2)).val → X y = sRow (mxAt m c (5 * u + 4)) x

/-- What the body leaves in each output window at point `t`: of the table of scales, the rows put so far. -/
def left (c : Dev nD) (w : Fin cfg0.W) (t : Fin cfg0.N) : ((cfg0.win w).block.Idx → Elt F (cfg0.win w).elt) → Prop :=
  match w with
  | ⟨6, _⟩ => fun X => Table m c t X
  | _ => fun _ => True

/-- What the points hand on besides the windows: the scratch buffers, of which the running maximum is tracked. -/
def Φm (c : Dev nD) (k : ℕ) : sProp (MT nD τ sig Unit (Elt F) ℕ (UR sig nD τ) ℕ) :=
  iprop(((∃ f, owns (c : Thread nD τ) (Memref.whole cc0_scratch0) fullShare f)
    ∗ (∃ f, ⌜MxInv m c k f⌝ ∗ owns (c : Thread nD τ) (Memref.whole cc0_scratch1) fullShare f)
    ∗ (∃ f, owns (c : Thread nD τ) (Memref.whole cc0_scratch2) fullShare f))
    ∗ ∃ r, prngReg c r)

/-- The proof data of the one pipeline: the arrays as the region finds them, every input's buffer at its block, the outputs'
    left to `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ k := Φm m c k.val
  q w := if (spec0 w).isOut then fullShare else Pipeline.shareOf spec0 w
  owed _ := 0

/-- The output windows. -/
def outs : Fin cfg0.W → Bool := fun w => w.val == 5 || w.val == 6 || w.val == 7

/-- The proof data with the outputs held to `left`. -/
abbrev rdats (c : Dev nD) : RDat τ (Elt F) Unit ℕ (UR sig nD τ) ℕ cfg0 c := (dats m 0 c).toRRel outs (left m c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Point `t`'s coordinates: its tile of rows and its step in the tile. -/
theorem coord0_eq : ∀ t : Fin cfg0.N, (grid0.coords t 0).val = t.val / 5 := by decide +kernel
theorem coord1_eq : ∀ t : Fin cfg0.N, (grid0.coords t 1).val = t.val % 5 := by decide +kernel

/-- The table is not read from its array. -/
theorem nofetch : ∀ t : Fin cfg0.N, (cfg0.win 6).fetch t = false := by decide +kernel

theorem mx0_zero (M : Vec F S512x128 .f32) : mx0 0 M = k0_pay3 := if_pos rfl

theorem stepG_mx0 (i : grid0.Coords) (x0 : Vec F S512x3584 .fp8e4m3) (x1 : Vec F S512x128 .f32) (x2 x3 : Vec F S3584x2048 .fp8e4m3) (x4 : Vec F S1x18944 .f32)
    (h : (i 0).val < 32) (M M' : Vec F S512x128 .f32) (e : mx0 (i 1).val M = mx0 (i 1).val M') : stepG i x0 x1 x2 x3 x4 M = stepG i x0 x1 x2 x3 x4 M' := by
  have hi1 : (i 1).val < 5 := (i 1).isLt
  by_cases h3 : k0_cond3 i = 1#1
  · rw [stepG_A h3, stepG_A h3, e]
  · have h5 : k0_cond5 i = 1#1 := (cond5_iff i).mpr (by have := mt (cond3_iff i).mpr h3; omega)
    rw [stepG_B h5, stepG_B h5, e]

/-- A point's running maximum, from what it may find. -/
theorem mx_step (c : Dev nD) (t : Fin cfg0.N) (ht : t.val < 160) (f : Vec F S512x128 .f32) (hf : MxInv m c t.val f) : stepAt m c t f = mxAt m c t.val := by
  have hN : t.val < 165 := lt_of_lt_of_eq t.isLt (show cfg0.N = 165 from N_0)
  have e : t = pt t.val := Fin.ext (show t.val = min t.val 164 by omega)
  rcases ht0 : t.val with _ | n
  · have e' : t = pt 0 := by rw [e, ht0]
    subst e'
    exact stepG_mx0 _ _ _ _ _ _ (by rw [coord0_eq]; omega) _ _ (by
      rw [show (grid0.coords (pt 0) 1).val = 0 from (coord1_eq _).trans (by rw [ht0])]; rfl)
  · rw [hf n (by omega) (by omega)]
    have e' : t = pt (n + 1) := by rw [e, ht0]
    rw [e']
    rfl

/-- One point's step in the table which the earlier points filled. -/
theorem Table.put {c : Dev nD} {t : Fin cfg0.N} {Y X : Vec F S4x4096 .f32} {M : Vec F S512x128 .f32}
    (hY : ∀ u : Fin cfg0.N, u.val + 1 = t.val → Table m c u Y) (hM : t.val < 160 → M = mxAt m c t.val) (hX : Tab (grid0.coords t) M Y X) : Table m c t X := by
  intro u y x hu hut h0 h1
  have hx : (x (1 : Fin 2)).val < 512 := (x (1 : Fin 2)).isLt
  have hN : t.val < 165 := lt_of_lt_of_eq t.isLt (show cfg0.N = 165 from N_0)
  unfold Tab at hX
  rw [coord0_eq, coord1_eq] at hX
  by_cases e : 5 * u + 4 = t.val
  · have hp := hX.1 (by omega)
    rw [e, ← hM (by omega)]
    exact hp.1 y x (by omega) (by omega)
  · have hlt : 5 * u + 4 < t.val := by omega
    have key : Y y = sRow (mxAt m c (5 * u + 4)) x :=
      hY ⟨t.val - 1, by have := t.isLt; omega⟩ (by show t.val - 1 + 1 = t.val; omega) u y x hu (by show 5 * u + 4 ≤ t.val - 1; omega) h0 h1
    by_cases hc : t.val / 5 < 32 ∧ t.val % 5 = 4
    · rw [(hX.1 hc).2 y (by omega)]; exact key
    · rw [hX.2 hc]; exact key

/-- What the body may find in the table: the earlier points' rows. -/
theorem found {c : Dev nD} {t : Fin cfg0.N} {Y : Vec F S4x4096 .f32} (h : (rdats m c).Finds 6 t Y) :
    ∀ u : Fin cfg0.N, u.val + 1 = t.val → Table m c u Y := by
  intro u hu
  have hN : t.val < 165 := lt_of_lt_of_eq t.isLt (show cfg0.N = 165 from N_0)
  rcases (((rdats m c).finds_of_pos (nofetch t) (by omega) Y).mp h) with hf | hl
  · have := (flush0_6 _).mp hf
    have : (t.val - 1) % 165 = 164 := this
    omega
  · have e : (⟨t.val - 1, Nat.lt_of_le_of_lt (Nat.sub_le _ _) t.isLt⟩ : Fin cfg0.N) = u := Fin.ext (by show t.val - 1 = u.val; omega)
    rw [e] at hl
    exact (dats m 0 c).toRRel_leaves (fgt := outs) (Rl := left m c) (w := 6) rfl hl

/-! ## The body's obligation -/

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d))
    ∗ (∃ Y, ⌜(rdats m c).Finds 5 t Y⌝ ∗ owns (c : Thread nD τ) (st0_5 t) fullShare Y) ∗ (∃ Y, ⌜(rdats m c).Finds 6 t Y⌝ ∗ owns (c : Thread nD τ) (st0_6 t) fullShare Y) ∗ (∃ Y, ⌜(rdats m c).Finds 7 t Y⌝ ∗ owns (c : Thread nD τ) (st0_7 t) fullShare Y))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t)
    ∗ (∃ X, ⌜left m c 5 t X⌝ ∗ owns (c : Thread nD τ) (st0_5 t) fullShare X) ∗ (∃ X, ⌜left m c 6 t X⌝ ∗ owns (c : Thread nD τ) (st0_6 t) fullShare X) ∗ (∃ X, ⌜left m c 7 t X⌝ ∗ owns (c : Thread nD τ) (st0_7 t) fullShare X))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Φm m c (t.val + 1) from rfl, show (dats m 0 c).Φ t.castSucc = Φm m c t.val from rfl,
    show (dats m 0 c).owesAt () t.succ = (dats m 0 c).owesAt () t.castSucc from rfl,
    after_0, after_1, after_2, after_3, after_4]
  unfold Φm
  iintro ⟨⟨⟨⟨%g0, G0⟩, ⟨%g1, %hg1, G1⟩, ⟨%g2, G2⟩⟩, HP⟩, Ho, ⟨%d0, H0⟩, ⟨%d1, H1⟩, ⟨%d2, H2⟩, ⟨%d3, H3⟩, ⟨%d4, H4⟩, ⟨%Y5, %hY5, H5⟩, ⟨%Y6, %hY6, H6⟩, ⟨%Y7, %hY7, H7⟩⟩
  iapply (run c Set.univ (grid0.coords t) _ _ _ _ _ _ _ _ _ _ _ _ _ _ _ _ _ _ _ _ _ _ (iblk m c 0 t) (iblk m c 1 t) (iblk m c 2 t) (iblk m c 3 t) (iblk m c 4 t) Y6 g1 _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [G0]; · iexists _; iexact G0
  isplitl [G1]; · iexact G1
  isplitl [G2]; · iexists _; iexact G2
  iintro ⟨H0, H1, H2, H3, H4, ⟨%X5, H5⟩, ⟨%X6, %hX6, H6⟩, ⟨%X7, H7⟩, ⟨%k0, G0⟩, ⟨%k1, %hk1, G1⟩, ⟨%k2, G2⟩⟩
  isplitl [G0 G1 G2 HP]
  · isplitl [G0 G1 G2]
    · isplitl [G0]
      · iexists k0; iexact G0
      isplitl [G1]
      · iexists k1; isplitr
        swap; · iexact G1
        ipureintro
        intro n hn h160
        have e : n = t.val := by omega
        subst e
        rw [hk1 (by rw [coord0_eq]; omega)]
        exact mx_step m c t h160 g1 hg1
      iexists k2; iexact G2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexists _; isplitr; swap; (· iexact H5); ipureintro; trivial
  isplitl [H6]; · iexists _; isplitr; swap; (· iexact H6); ipureintro; exact Table.put m (found m hY6) (fun h => mx_step m c t h g1 hg1) hX6
  iexists _; isplitr; swap; (· iexact H7); ipureintro; trivial

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligationRel (dats (F := F) m 0 c) (defs₀ (F := F)) Variants.none () Set.univ outs (left m c) := fun t => by
  rw [bigSep_W0, bigSep_W0, defs₀_row]
  exact triple_restated (sound_body m c t) rfl .rfl fun _ => .rfl

/-! ## The run and the frame -/

/-- What the region hands over is what the first point is called with. -/
theorem phi_in (c : Dev nD) : Pipeline.ΦA (Val := Elt F) (U := UR sig nD τ) spec0 c ⊢ Φm m c 0 := by
  unfold Pipeline.ΦA Φm
  rw [scopedRest0_eq]
  simp only [owns_whole]
  iintro ⟨⟨G0, ⟨%g1, G1⟩, G2⟩, HP⟩
  isplitl [G0 G1 G2]
  · isplitl [G0]; · iexact G0
    isplitl [G1]
    · iexists g1; isplitr
      swap; · iexact G1
      ipureintro
      intro n hn; omega
    iexact G2
  iexact HP

/-- What the last point returns is what the region takes back. -/
theorem phi_out (c : Dev nD) (k : ℕ) : Φm m c k ⊢ Pipeline.ΦA (Val := Elt F) (U := UR sig nD τ) spec0 c := by
  unfold Pipeline.ΦA Φm
  rw [scopedRest0_eq]
  simp only [owns_whole]
  iintro ⟨⟨G0, ⟨%g1, %hg, G1⟩, G2⟩, HP⟩
  isplitl [G0 G1 G2]
  · isplitl [G0]; · iexact G0
    isplitl [G1]
    · iexists g1; iexact G1
    iexact G2
  iexact HP

set_option backward.isDefEq.respectTransparency.types false in
set_option maxHeartbeats 800000 in
/-- The run: every array of the pipeline at what `left` allows, every other buffer as found, every counter zero. -/
theorem run_main : θ_run defs (onTc (τ := τ) (main (F := F))) (s₀ m ρ) (fun r => (RDat.FramePost (cfgs 0) (rdats m) (V m)) r ∧ r.2.sem = fun _ => 0) :=
  RDat.θ_run_frame_track_shared (Q' := _) cfgs (0 : Fin 1) launch₀0 defs₀ Variants.none (rdats m) m ρ main
    (hbody := fun c => (body_obligation m c).toRRel) (hq := fun c w h => if_neg (by rw [show (spec0 w).isOut = false from h]; decide))
    (howed := fun _ _ => rfl) (V := V m) (hmain := hmain m Variants.none) (hA := A_eq m) (hin := fun c => phi_in m c) (hout := fun c => phi_out m c (Fin.last cfg0.N).val)

/-- The argument arrays end unchanged. -/
theorem args_of {r} (h : RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((RDat.FramePost.arr_in h c 0 rfl).trans ((A_eq m c 0).trans (V_main_arg0 m c))),
    ((h c).2 main_arg1 (Pipeline.mem_restRefs_of main_arg1 (by decide) (by decide))).trans (V_main_arg1 m c),
    ((RDat.FramePost.arr_in h c 3 rfl).trans ((A_eq m c 3).trans (V_main_arg2 m c))),
    ((RDat.FramePost.arr_in h c 4 rfl).trans ((A_eq m c 4).trans (V_main_arg3 m c)))⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_of m h.1, h.2⟩) (run_main m ρ)

end Cert.GateUpIdeal.Hand

end
-- ==== Proof.GateUpR.Value.lean ====
/- What the reference of the gate-and-up call leaves: its table of scales is an expression of the argument arrays. -/
module

public import proofs.«01_k».proof.Proof.Gen.GateUpRefIdeal.Frame
public import Idealize.ShloMosaic.Lib.Pipeline.Value

@[expose] public section

noncomputable section

namespace Cert.GateUpRefIdeal.Whole

open Cert.GateUpRefIdeal Cert.GateUpRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The result's array after the run. -/
theorem post4 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- Argument 0 ends as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 ends as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- Argument 2 ends as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- Argument 3 ends as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem hz : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S16384x3584.Idx) : ((cfg0.win 0).blk t).view.emb j = j := by
  obtain ⟨e0, e1⟩ := idx_zero0 t
  funext a; apply Fin.ext
  match a with
  | ⟨0, _⟩ => show win0_0.index t (0 : Fin 2) * 16384 + 1 * (j 0).val = (j 0).val; omega
  | ⟨1, _⟩ => show win0_0.index t (1 : Fin 2) * 3584 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S16384x1.Idx) : ((cfg0.win 1).blk t).view.emb j = j := by
  obtain ⟨e0, e1⟩ := idx_zero1 t
  funext a; apply Fin.ext
  match a with
  | ⟨0, _⟩ => show win0_1.index t (0 : Fin 2) * 16384 + 1 * (j 0).val = (j 0).val; omega
  | ⟨1, _⟩ => show win0_1.index t (1 : Fin 2) * 1 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S3584x18944.Idx) : ((cfg0.win 2).blk t).view.emb j = j := by
  obtain ⟨e0, e1⟩ := idx_zero2 t
  funext a; apply Fin.ext
  match a with
  | ⟨0, _⟩ => show win0_2.index t (0 : Fin 2) * 3584 + 1 * (j 0).val = (j 0).val; omega
  | ⟨1, _⟩ => show win0_2.index t (1 : Fin 2) * 18944 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x18944.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 18944 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S4x4096.Idx) : ((cfg0.win 4).blk t).view.emb j = j := by
  obtain ⟨e0, e1⟩ := idx_zero4 t
  funext a; apply Fin.ext
  match a with
  | ⟨0, _⟩ => show win0_4.index t (0 : Fin 2) * 4 + 1 * (j 0).val = (j 0).val; omega
  | ⟨1, _⟩ => show win0_4.index t (1 : Fin 2) * 4096 + 1 * (j 1).val = (j 1).val; omega

/-- The table of scales, of whole arrays. -/
abbrev G4 (a0 : Vec F S16384x3584 .fp8e4m3) (a1 : Vec F S16384x1 .f32) (a2 : Vec F S3584x18944 .fp8e4m3) (a3 : Vec F S1x18944 .f32) : Vec F S4x4096 .f32 := k0_pay1 a0 a2 a1 a3

theorem out4_eq (a0 : Vec F S16384x3584 .fp8e4m3) (a1 : Vec F S16384x1 .f32) (a2 : Vec F S3584x18944 .fp8e4m3) (a3 : Vec F S1x18944 .f32) : out0_4 (F := F) a0 a1 a2 a3 = G4 a0 a1 a2 a3 := by
  unfold out0_4
  rw [View.canon_unit_zero hz, View.ld_unit_zero (S := S16384x3584) hz _ a0, View.ld_unit_zero (S := S16384x1) hz _ a1, View.ld_unit_zero (S := S3584x18944) hz _ a2, View.ld_unit_zero (S := S1x18944) hz _ a3]

/-- Cutting the point's block out of `X` and reading `X` through the block's view give the same. -/
theorem cut4_eq (t : Fin cfg0.N) (X : Vec F S4x4096 .f32) :
    (cfg0.win 4).cut (grid0.coords t) X = ((cfg0.win 4).blk t).view.read (Elt F) X := by
  funext j
  show X j = X (((cfg0.win 4).blk t).view.emb j)
  rw [emb4]

/-- What the point writes back is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S4x4096.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- The array after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-- The run: the result at its function of the arguments, the arguments unchanged. -/
theorem run : θ_run defs (onTc (τ := τ) (main (F := F))) ⟨m, fun _ => 0, ρ⟩ fun r => ∀ c : Dev nD,
      r.2.mem ((c : Thread nD τ).loc main_v0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c), kept_main_arg0 m r h c, kept_main_arg1 m r h c,
      kept_main_arg2 m r h c, kept_main_arg3 m r h c⟩)
    (run_main m ρ)

end Cert.GateUpRefIdeal.Whole

end
-- ==== Proof.GateUpR.Point.lean ====
/- The reference of the gate-and-up call at an index: the scale of the largest magnitude of a row of activations. -/
module

public import proofs.«01_k».proof.Proof.GateUpR.Value
public import Idealize.ShloMosaic.Lib.Pointwise

@[expose] public section

set_option maxRecDepth 16384

noncomputable section

namespace Cert.GateUpRefIdeal.Whole

open Cert.GateUpRefIdeal Cert.GateUpRefIdeal.Gen Idealize.ShloMosaic Idealize.ShloMosaic.TcCoe

/-- The activation of a gate and an up value: `g * sigmoid g * u`. -/
def act (g u : EReal) : EReal := g * (FloatOps.logistic (F := Ideal) (φ := .f32) g : EReal) * u

/-- The magnitude of a value. -/
def mag (x : EReal) : EReal := (FloatOps.absf (F := Ideal) (φ := .f32) x : EReal)

/-- The scale of a row from its largest magnitude. -/
def scale (a : EReal) : EReal := if a = 0 then 1 else Ideal.div a (Ideal.ofBits .f32 1138753536#32)

variable (a : FVec Ideal S16384x3584 .fp8e4m3) (s : FVec Ideal S16384x1 .f32) (w : FVec Ideal S3584x18944 .fp8e4m3) (ws : FVec Ideal S1x18944 .f32)

/-- The projection at a row and a column. -/
def dotAt (r : Fin 16384) (j : Fin 18944) : EReal := (∑ k : Fin 3584, a (ix2 r k) * w (ix2 k j)) * s (ix2 r 0) * ws (ix2 0 j)

/-- The activation at a row and a column: the up column is 9472 after the gate column. -/
def actAt (r : Fin 16384) (j : Fin 9472) : EReal :=
  act (dotAt a s w ws r ⟨j.val, by omega⟩) (dotAt a s w ws r ⟨9472 + j.val, by omega⟩)

/-- The largest magnitude of a row of activations. -/
def ampAt (r : Fin 16384) : EReal := Finset.fold max (Ideal.ofBits .f32 4286578688#32) (fun j : Fin 9472 => mag (actAt a s w ws r j)) Finset.univ

/-- The scaled projection. -/
def proj : FVec Ideal S16384x18944 .f32 :=
  mulf (mulf (matmul dot_S16384x3584_S3584x18944_S16384x18944_1_0_0_1_n_n none a w (constant S16384x18944 .f32 0x00000000#32))
    (broadcastTo S16384x18944 s broadcasts_S16384x1_S16384x18944)) (broadcastTo S16384x18944 ws broadcasts_S1x18944_S16384x18944)

/-- The activations of a projection. -/
def acts (y : FVec Ideal S16384x18944 .f32) : FVec Ideal S16384x9472 .f32 :=
  mulf (mulf (extractStridedSlice S16384x9472 ![0, 0] y slices_S16384x18944_o0_0_S16384x9472)
    (logistic (extractStridedSlice S16384x9472 ![0, 0] y slices_S16384x18944_o0_0_S16384x9472)))
    (extractStridedSlice S16384x9472 ![0, 9472] y slices_S16384x18944_o0_9472_S16384x9472)

/-- The largest magnitude of each row. -/
def amps (u : FVec Ideal S16384x9472 .f32) : FVec Ideal S16384x1 .f32 :=
  shapeCast S16384x1 (multiReduction .maximumf [1] S16384 (absf u) 0xFF800000#32 reduces_S16384x9472_S16384 (.inl rfl) rfl) shapeCasts_S16384_S16384x1

/-- The scales from the largest magnitudes. -/
def scales (v : FVec Ideal S16384x1 .f32) : FVec Ideal S16384x1 .f32 :=
  select (cmpf .oeq v (broadcast S16384x1 (Scalar.ofBits .f32 0x00000000#32 : Ideal .f32)))
    (broadcast S16384x1 (Scalar.ofBits .f32 0x3F800000#32 : Ideal .f32))
    (divf v (broadcast S16384x1 (Scalar.ofBits .f32 0x43E00000#32 : Ideal .f32)))

/-- The column of scales as the table's 4 rows of 4096. -/
def table (v : FVec Ideal S16384x1 .f32) : FVec Ideal S4x4096 .f32 := shapeCast S4x4096 v shapeCasts_S16384x1_S4x4096

/-- The reference's payload, by name. -/
theorem pay1_eq : k0_pay1 (F := Ideal) a w s ws = table (scales (amps (acts (proj a s w ws)))) := by
  unfold k0_pay1 table scales amps acts proj
  rfl

theorem proj_apply (r : Fin 16384) (j : Fin 18944) : proj a s w ws (ix2 r j) = dotAt a s w ws r j := by
  unfold proj dotAt
  pointwise

theorem acts_apply (y : FVec Ideal S16384x18944 .f32) (r : Fin 16384) (j : Fin 9472) :
    acts y (ix2 r j) = act (y (ix2 r ⟨j.val, by omega⟩)) (y (ix2 r ⟨9472 + j.val, by omega⟩)) := by
  unfold acts act
  pointwise

theorem amps_apply (u : FVec Ideal S16384x9472 .f32) (r : Fin 16384) :
    amps u (ix2 r 0) = Finset.fold max (Ideal.ofBits .f32 4286578688#32) (fun j : Fin 9472 => mag (u (ix2 r j))) Finset.univ := by
  unfold amps
  pointwise
  rfl

theorem scales_apply (v : FVec Ideal S16384x1 .f32) (r : Fin 16384) : scales v (ix2 r 0) = scale (v (ix2 r 0)) := by
  unfold scales
  pointwise
  rfl

theorem table_apply (u : FVec Ideal S16384x1 .f32) (i : S4x4096.Idx) (r : Fin 16384) (h : r.val = (i 0).val * 4096 + (i 1).val) :
    table u i = u (ix2 r 0) := by
  unfold table
  idx_vars i
  pointwise
  exact congrArg (fun q => u (ix2 q 0)) (Fin.ext h.symm)

/-- The table of scales at an index. -/
theorem G4_apply (i : S4x4096.Idx) (r : Fin 16384) (h : r.val = (i 0).val * 4096 + (i 1).val) :
    G4 (F := Ideal) a s w ws i = scale (ampAt a s w ws r) := by
  unfold G4
  rw [pay1_eq, table_apply _ i r h, scales_apply, amps_apply]
  unfold ampAt actAt
  simp only [acts_apply, proj_apply]

end Cert.GateUpRefIdeal.Whole
-- ==== Proof.GateUpI.Chunk.lean ====
/- One chunk of the gate-and-up call over the extended reals: the running maximum takes in the magnitudes of the chunk's activations. -/
module

public import proofs.«01_k».proof.Proof.GateUpI.Body
public import proofs.«01_k».proof.Proof.GateUpR.Point
public import Idealize.ShloMosaic.Lib.Pointwise
public import Idealize.ShloMosaic.Lib.Pipeline.ValueKit

@[expose] public section

set_option maxRecDepth 16384

noncomputable section

namespace Cert.GateUpIdeal.Chunk

open Idealize.ShloMosaic Idealize.ShloMosaic.TcCoe Idealize.SL.Sem
open Cert.GateUpIdeal Cert.GateUpIdeal.Gen Cert.GateUpIdeal.Hand
open Cert.GateUpRefIdeal.Whole (act mag scale)

/-! ## The payloads at an index -/

theorem pay15_apply (a : FVec Ideal S512x3584 .fp8e4m3) (w : FVec Ideal S3584x256 .fp8e4m3) (r : Fin 512) (j : Fin 256) :
    k0_pay15 (F := Ideal) a w (ix2 r j) = ∑ k : Fin 3584, a (ix2 r k) * w (ix2 k j) := by
  unfold k0_pay15
  pointwise

theorem pay16_apply (a : FVec Ideal S512x3584 .fp8e4m3) (w : FVec Ideal S3584x256 .fp8e4m3) (r : Fin 512) (j : Fin 256) :
    k0_pay16 (F := Ideal) a w (ix2 r j) = ∑ k : Fin 3584, a (ix2 r k) * w (ix2 k j) := by
  unfold k0_pay16
  pointwise

theorem pay17_apply (p : FVec Ideal S512x256 .f32) (a : FVec Ideal S512x3584 .fp8e4m3) (w : FVec Ideal S3584x256 .fp8e4m3)
    (g u : FVec Ideal S1x128 .f32) (s s' : FVec Ideal S512x128 .f32) (r : Fin 512) (l : Fin 128) :
    k0_pay17 (F := Ideal) p a w g u s s' (ix2 r l)
      = act (p (ix2 r ⟨l.val, by omega⟩) * s (ix2 r l) * g (ix2 0 l)) (k0_pay16 (F := Ideal) a w (ix2 r ⟨l.val, by omega⟩) * s' (ix2 r l) * u (ix2 0 l)) := by
  unfold k0_pay17 act
  generalize k0_pay16 (F := Ideal) a w = q
  pointwise

theorem pay20_apply (p q : FVec Ideal S512x256 .f32)
    (g u : FVec Ideal S1x128 .f32) (s s' : FVec Ideal S512x128 .f32) (r : Fin 512) (l : Fin 128) :
    k0_pay20 (F := Ideal) p q g u s s' (ix2 r l)
      = act (p (ix2 r ⟨128 + l.val, by omega⟩) * s (ix2 r l) * g (ix2 0 l)) (q (ix2 r ⟨128 + l.val, by omega⟩) * s' (ix2 r l) * u (ix2 0 l)) := by
  unfold k0_pay20 act
  pointwise

theorem pay19_apply (p : FVec Ideal S512x256 .f32) (a : FVec Ideal S512x3584 .fp8e4m3) (w : FVec Ideal S3584x256 .fp8e4m3)
    (g u : FVec Ideal S1x128 .f32) (s s' M : FVec Ideal S512x128 .f32) (r : Fin 512) (l : Fin 128) :
    k0_pay19 (F := Ideal) p a w g u s s' M (ix2 r l) = max (M (ix2 r l)) (mag (k0_pay17 (F := Ideal) p a w g u s s' (ix2 r l))) := by
  unfold k0_pay19 mag
  generalize k0_pay17 (F := Ideal) p a w g u s s' = v
  pointwise

theorem pay22_apply (p q : FVec Ideal S512x256 .f32)
    (g u : FVec Ideal S1x128 .f32) (s s' M : FVec Ideal S512x128 .f32) (r : Fin 512) (l : Fin 128) :
    k0_pay22 (F := Ideal) p q g u s s' M (ix2 r l) = max (M (ix2 r l)) (mag (k0_pay20 (F := Ideal) p q g u s s' (ix2 r l))) := by
  unfold k0_pay22 mag
  generalize k0_pay20 (F := Ideal) p q g u s s' = v
  pointwise

theorem pay3_apply (r : Fin 512) (l : Fin 128) : k0_pay3 (F := Ideal) (ix2 r l) = (0 : EReal) := by
  unfold k0_pay3
  pointwise

/-- The scale of a row from the running maximum's 128 lanes. -/
theorem sRow_apply (M : FVec Ideal S512x128 .f32) (x : S1x512.Idx) : sRow (F := Ideal) M x
    = scale (Finset.fold max (Ideal.ofBits .f32 4286578688#32) (fun l : Fin 128 => (M (ix2 (x 1) l) : EReal)) Finset.univ) := by
  have e : ∀ v : FVec Ideal S512x1 .f32, k0_pay12 (F := Ideal) v x = v (ix2 (x 1) 0) := by
    intro v
    unfold k0_pay12
    idx_vars x
    pointwise
  unfold sRow
  rw [e]
  unfold k0_pay187 scale
  idx_vars x
  pointwise

/-! ## The loads at an index -/

theorem ldX (x : Vec Ideal S512x3584 .fp8e4m3) : View.ld x rX = x := View.ld_unit_zero (S := S512x3584) (funext fun a => by fin_cases a <;> rfl) _ x
theorem ldS (x : Vec Ideal S512x128 .f32) : View.ld x rS = x := View.ld_unit_zero (S := S512x128) (funext fun a => by fin_cases a <;> rfl) _ x

theorem ldW (x : Vec Ideal S3584x2048 .fp8e4m3) (w : ℕ) (hw : ∀ a, ![0, 256 * w] a + S3584x256.size a ≤ S3584x2048.size a) (k : Fin 3584) (j : Fin 256)
    (n : Fin 2048) (hn : n.val = 256 * w + j.val) : View.ld x (rW w hw) (ix2 k j) = x (ix2 k n) := by
  rw [View.ld_apply]
  refine congrArg x ?_
  funext a
  apply Fin.ext
  match a with
  | ⟨0, _⟩ => show 0 + 1 * k.val = k.val; omega
  | ⟨1, _⟩ => show 256 * w + 1 * j.val = n.val; omega

theorem off3_val : ∀ (i : grid0.Coords) (k : Fin 8) (h : Fin 2), k0_off3 i (BitVec.ofNat 32 k.val) (BitVec.ofNat 32 (128 * h.val))
    = ![0, ((i 1).val * 8 + k.val) * 256 + 128 * h.val] := by decide +kernel
theorem off4_val : ∀ (i : grid0.Coords) (k : Fin 8) (h : Fin 2), k0_off4 i (BitVec.ofNat 32 k.val) (BitVec.ofNat 32 (128 * h.val))
    = ![0, 9472 + ((i 1).val * 8 + k.val) * 256 + 128 * h.val] := by decide +kernel

theorem ld_row (x : Vec Ideal S1x18944 .f32) {off : Fin 2 → ℕ} (o : ℕ) (e : off = ![0, o]) (inb : ∀ a, off a + S1x128.size a ≤ S1x18944.size a)
    (l : Fin 128) (n : Fin 18944) (hn : n.val = o + l.val) :
    View.ld x (Rect.unit (s := S1x18944) off S1x128.size inb) (ix2 0 l) = x (ix2 0 n) := by
  subst e
  rw [View.ld_apply]
  refine congrArg x ?_
  funext a
  apply Fin.ext
  match a with
  | ⟨0, _⟩ => show 0 + 1 * 0 = 0; omega
  | ⟨1, _⟩ => show o + 1 * l.val = n.val; omega

/-! ## A chunk -/

variable {i : grid0.Coords} {n : ℕ} (G : Geo i n) (hn8 : n ≤ 8)
  (x0 : Vec Ideal S512x3584 .fp8e4m3) (x1 : Vec Ideal S512x128 .f32) (x2 x3 : Vec Ideal S3584x2048 .fp8e4m3) (x4 : Vec Ideal S1x18944 .f32)

/-- The activation at row `r` and lane `l` of a block: column `j` of the weight blocks, columns `cg` and `cu` of the scales. -/
def actIn (r : Fin 512) (l : Fin 128) (j : Fin 2048) (cg cu : Fin 18944) : EReal :=
  act ((∑ k : Fin 3584, x0 (ix2 r k) * x2 (ix2 k j)) * x1 (ix2 r l) * x4 (ix2 0 cg))
    ((∑ k : Fin 3584, x0 (ix2 r k) * x3 (ix2 k j)) * x1 (ix2 r l) * x4 (ix2 0 cu))

include hn8 in
theorem step0_apply (k : Fin n) (w : ℕ) (hw) (M : FVec Ideal S512x128 .f32) (r : Fin 512) (l : Fin 128) (j : Fin 2048) (cg cu : Fin 18944)
    (hj : j.val = 256 * w + l.val) (hg : cg.val = ((i 1).val * 8 + k.val) * 256 + l.val) (hu : cu.val = 9472 + ((i 1).val * 8 + k.val) * 256 + l.val) :
    step0 (F := Ideal) G k w hw x0 x1 x2 x3 x4 M (ix2 r l) = max (M (ix2 r l)) (mag (actIn x0 x1 x2 x3 x4 r l j cg cu)) := by
  unfold step0
  rw [pay19_apply, pay17_apply, pay15_apply, pay16_apply, ldX, ldS]
  unfold actIn
  rw [ld_row x4 _ (off3_val i ⟨k.val, by omega⟩ 0) _ l cg (by simpa using hg), ld_row x4 _ (off4_val i ⟨k.val, by omega⟩ 0) _ l cu (by simpa using hu)]
  simp only [ldW x2 w hw _ (⟨l.val, by omega⟩ : Fin 256) j hj, ldW x3 w hw _ (⟨l.val, by omega⟩ : Fin 256) j hj]

include hn8 in
theorem step1_apply (k : Fin n) (w : ℕ) (hw) (M : FVec Ideal S512x128 .f32) (r : Fin 512) (l : Fin 128) (j : Fin 2048) (cg cu : Fin 18944)
    (hj : j.val = 256 * w + (128 + l.val)) (hg : cg.val = ((i 1).val * 8 + k.val) * 256 + 128 + l.val) (hu : cu.val = 9472 + ((i 1).val * 8 + k.val) * 256 + 128 + l.val) :
    step1 (F := Ideal) G k w hw x0 x1 x2 x3 x4 M (ix2 r l) = max (M (ix2 r l)) (mag (actIn x0 x1 x2 x3 x4 r l j cg cu)) := by
  unfold step1
  rw [pay22_apply, pay20_apply, pay15_apply, pay16_apply, ldX, ldS]
  unfold actIn
  rw [ld_row x4 _ (off3_val i ⟨k.val, by omega⟩ 1) _ l cg (by simpa using hg), ld_row x4 _ (off4_val i ⟨k.val, by omega⟩ 1) _ l cu (by simpa using hu)]
  simp only [ldW x2 w hw _ (⟨128 + l.val, by omega⟩ : Fin 256) j hj, ldW x3 w hw _ (⟨128 + l.val, by omega⟩ : Fin 256) j hj]

/-! ## The chunks of a point -/

open Cert.GateUpRefIdeal.Whole (actAt dotAt)

variable (A : FVec Ideal S16384x3584 .fp8e4m3) (S : FVec Ideal S16384x1 .f32) (W : FVec Ideal S3584x18944 .fp8e4m3) (C : FVec Ideal S1x18944 .f32)

/-- The blocks of a point are those of the arrays at row block `R` and column offset `o`. -/
structure Blocks (R : Fin 512 → Fin 16384) (o : ℕ) : Prop where
  codes : ∀ (r : Fin 512) (k : Fin 3584), x0 (ix2 r k) = A (ix2 (R r) k)
  rows : ∀ (r : Fin 512) (l : Fin 128), x1 (ix2 r l) = S (ix2 (R r) 0)
  gate : ∀ (k : Fin 3584) (j : Fin 2048) (n : Fin 18944), n.val = o + j.val → x2 (ix2 k j) = W (ix2 k n)
  up : ∀ (k : Fin 3584) (j : Fin 2048) (n : Fin 18944), n.val = 9472 + (o + j.val) → x3 (ix2 k j) = W (ix2 k n)
  cols : ∀ n : Fin 18944, x4 (ix2 0 n) = C (ix2 0 n)

variable {A S W C x0 x1 x2 x3 x4} {R : Fin 512 → Fin 16384} {o : ℕ} (B : Blocks x0 x1 x2 x3 x4 A S W C R o)

include B in
/-- A block's activation is the arrays'. -/
theorem actIn_eq (r : Fin 512) (l : Fin 128) (j : Fin 2048) (cg cu : Fin 18944) (n : Fin 9472) (hj : n.val = o + j.val) (hg : cg.val = n.val) (hu : cu.val = 9472 + n.val) :
    actIn x0 x1 x2 x3 x4 r l j cg cu = actAt A S W C (R r) n := by
  have eg : cg = ⟨n.val, lt_of_lt_of_le n.isLt (by decide)⟩ := Fin.ext hg
  have eu : cu = ⟨9472 + n.val, Nat.add_lt_add_left n.isLt 9472⟩ := Fin.ext hu
  clear hg hu
  subst eg
  subst eu
  unfold actIn actAt dotAt
  rw [B.rows r l, B.cols, B.cols]
  simp only [B.codes r, B.gate _ j ⟨n.val, by omega⟩ hj, B.up _ j ⟨9472 + n.val, by omega⟩ (by show 9472 + n.val = _; omega)]

include B hn8 in
/-- The running maximum after `k` chunks is the largest of the one before and the magnitudes of the columns so far. -/
theorem mxAll_le (b : ℕ) (hb : b + n ≤ 8) (ho : o + 256 * b = 2048 * (i 1).val) (hlim : 2048 * (i 1).val + 256 * n ≤ 9472)
    (M : FVec Ideal S512x128 .f32) (r : Fin 512) (l : Fin 128) (z : EReal) : ∀ (k : ℕ) (hk : k ≤ n),
    mxAll (F := Ideal) G b hb x0 x1 x2 x3 x4 M k hk (ix2 r l) ≤ z ↔ M (ix2 r l) ≤ z
      ∧ ∀ q : Fin 9472, 2048 * (i 1).val ≤ q.val → q.val < 2048 * (i 1).val + 256 * k → q.val % 128 = l.val → mag (actAt A S W C (R r) q) ≤ z
  | 0, hk => by
    refine ⟨fun h => ⟨h, fun q h0 h1 => absurd h1 (by omega)⟩, fun h => h.1⟩
  | k + 1, hk => by
    have hl := l.isLt
    have ih := mxAll_le b hb ho hlim M r l z k (Nat.le_of_succ_le hk)
    have a0 := actIn_eq B r l ⟨256 * (b + k) + l.val, by omega⟩ ⟨((i 1).val * 8 + k) * 256 + l.val, by omega⟩ ⟨9472 + ((i 1).val * 8 + k) * 256 + l.val, by omega⟩ ⟨((i 1).val * 8 + k) * 256 + l.val, by omega⟩
      (show ((i 1).val * 8 + k) * 256 + l.val = o + (256 * (b + k) + l.val) by omega) rfl (show 9472 + ((i 1).val * 8 + k) * 256 + l.val = 9472 + (((i 1).val * 8 + k) * 256 + l.val) by omega)
    have a1 := actIn_eq B r l ⟨256 * (b + k) + (128 + l.val), by omega⟩ ⟨((i 1).val * 8 + k) * 256 + 128 + l.val, by omega⟩ ⟨9472 + ((i 1).val * 8 + k) * 256 + 128 + l.val, by omega⟩ ⟨((i 1).val * 8 + k) * 256 + 128 + l.val, by omega⟩
      (show ((i 1).val * 8 + k) * 256 + 128 + l.val = o + (256 * (b + k) + (128 + l.val)) by omega) rfl (show 9472 + ((i 1).val * 8 + k) * 256 + 128 + l.val = 9472 + (((i 1).val * 8 + k) * 256 + 128 + l.val) by omega)
    rw [mxAll, step1_apply G hn8 x0 x1 x2 x3 x4 ⟨k, hk⟩ (b + k) _ _ r l ⟨256 * (b + k) + (128 + l.val), by omega⟩
        ⟨((i 1).val * 8 + k) * 256 + 128 + l.val, by omega⟩ ⟨9472 + ((i 1).val * 8 + k) * 256 + 128 + l.val, by omega⟩ rfl rfl rfl, a1,
      step0_apply G hn8 x0 x1 x2 x3 x4 ⟨k, hk⟩ (b + k) _ _ r l ⟨256 * (b + k) + l.val, by omega⟩
        ⟨((i 1).val * 8 + k) * 256 + l.val, by omega⟩ ⟨9472 + ((i 1).val * 8 + k) * 256 + l.val, by omega⟩ rfl rfl rfl, a0, max_le_iff, max_le_iff, ih]
    refine ⟨fun h => ⟨h.1.1.1, fun q h0 h1 h2 => ?_⟩, fun h => ⟨⟨⟨h.1, fun q h0 h1 h2 => h.2 q h0 (by omega) h2⟩, ?_⟩, ?_⟩⟩
    · by_cases c0 : q.val < 2048 * (i 1).val + 256 * k
      · exact h.1.1.2 q h0 c0 h2
      · by_cases c1 : q.val < 2048 * (i 1).val + 256 * k + 128
        · have e : q = ⟨((i 1).val * 8 + k) * 256 + l.val, by omega⟩ := Fin.ext (show q.val = ((i 1).val * 8 + k) * 256 + l.val by omega)
          rw [e]; exact h.1.2
        · have e : q = ⟨((i 1).val * 8 + k) * 256 + 128 + l.val, by omega⟩ := Fin.ext (show q.val = ((i 1).val * 8 + k) * 256 + 128 + l.val by omega)
          rw [e]; exact h.2
    · exact h.2 _ (by show _ ≤ ((i 1).val * 8 + k) * 256 + l.val; omega) (by show ((i 1).val * 8 + k) * 256 + l.val < _; omega) (by show (((i 1).val * 8 + k) * 256 + l.val) % 128 = _; omega)
    · exact h.2 _ (by show _ ≤ ((i 1).val * 8 + k) * 256 + 128 + l.val; omega) (by show ((i 1).val * 8 + k) * 256 + 128 + l.val < _; omega) (by show (((i 1).val * 8 + k) * 256 + 128 + l.val) % 128 = _; omega)

/-- The column offset of the weight blocks of tile `j`. -/
def colOff (j : ℕ) : ℕ := min (2048 * j) 7424

/-- What a point of a tile of rows adds to the running maximum. -/
theorem stepG_le (i : grid0.Coords) (h0 : (i 0).val < 32) (B : Blocks x0 x1 x2 x3 x4 A S W C R (colOff (i 1).val)) (M : FVec Ideal S512x128 .f32) (r : Fin 512) (l : Fin 128) (z : EReal) :
    stepG (F := Ideal) i x0 x1 x2 x3 x4 M (ix2 r l) ≤ z ↔ mx0 (F := Ideal) (i 1).val M (ix2 r l) ≤ z
      ∧ ∀ q : Fin 9472, 2048 * (i 1).val ≤ q.val → q.val < 2048 * ((i 1).val + 1) → q.val % 128 = l.val → mag (actAt A S W C (R r) q) ≤ z := by
  have h1 : (i 1).val < 5 := (i 1).isLt
  by_cases hj : (i 1).val < 4
  · rw [stepG_A ((cond3_iff i).mpr ⟨h0, hj⟩), mxAll_le _ (Nat.le_refl 8) B 0 _ (by unfold colOff; omega) (by omega)]
    refine and_congr_right fun _ => forall_congr' fun q => ?_
    rw [show 2048 * (i 1).val + 256 * 8 = 2048 * ((i 1).val + 1) by omega]
  · rw [stepG_B ((cond5_iff i).mpr ⟨h0, by omega⟩), mxAll_le _ (by omega) B 3 _ (by unfold colOff; omega) (by omega)]
    refine and_congr_right fun _ => forall_congr' fun q => ?_
    have hq := q.isLt
    exact ⟨fun h a _ c => h a (by omega) c, fun h a _ c => h a (by omega) c⟩

end Cert.GateUpIdeal.Chunk
-- ==== Proof.GateUpI.Value.lean ====
/- What the gate-and-up call computes: the table of scales that the tiled kernel leaves is the reference's whole-array
   expression of the argument arrays. -/
module

public import proofs.«01_k».proof.Proof.GateUpI.Run
public import proofs.«01_k».proof.Proof.GateUpI.Chunk

@[expose] public section

set_option maxRecDepth 16384

noncomputable section

namespace Cert.GateUpIdeal.Whole

open Idealize.ShloMosaic Idealize.ShloMosaic.TcCoe Idealize.SL.Sem
open Idealize.ShloMosaic.Pipeline (Dat RDat)
open Cert.GateUpIdeal Cert.GateUpIdeal.Gen Cert.GateUpIdeal.Hand Cert.GateUpIdeal.Chunk
open Cert.GateUpRefIdeal.Whole (actAt mag scale ampAt)

variable (m : (ℓ : Loc nD τ sig) → Buf (Elt Ideal) ℓ)

/-! ## The blocks -/

/-- The block that each row-tiled window holds at grid point `t`, and the columns at which the weight windows start. -/
theorem idx : ∀ t : Fin cfg0.N, t.val < 160 → win0_0.index t = ![t.val / 5, 0] ∧ win0_1.index t = ![t.val / 5, 0]
    ∧ win0_2.index t = ![0, colOff (t.val % 5)] ∧ win0_3.index t = ![0, 9472 + colOff (t.val % 5)] ∧ win0_4.index t = ![0, 0] :=
  (by decide +kernel : ∀ t : Fin grid0.N, _)

/-- The argument arrays. -/
abbrev A0 (c : Dev nD) : FVec Ideal S16384x3584 .fp8e4m3 := m ((c : Thread nD τ).loc main_arg0)
abbrev A1 (c : Dev nD) : FVec Ideal S16384x1 .f32 := m ((c : Thread nD τ).loc main_arg1)
abbrev A2 (c : Dev nD) : FVec Ideal S3584x18944 .fp8e4m3 := m ((c : Thread nD τ).loc main_arg2)
abbrev A3 (c : Dev nD) : FVec Ideal S1x18944 .f32 := m ((c : Thread nD τ).loc main_arg3)

/-- The row of the arrays of row `r` of tile `u`. -/
def rowOf (u : ℕ) (hu : u < 32) (r : Fin 512) : Fin 16384 := ⟨u * 512 + r.val, by omega⟩

/-- The blocks of a point of a tile of rows. -/
theorem blocks (c : Dev nD) (t : Fin cfg0.N) (ht : t.val < 160) :
    Blocks (iblk m c 0 t) (iblk m c 1 t) (iblk m c 2 t) (iblk m c 3 t) (iblk m c 4 t) (A0 m c) (A1 m c) (A2 m c) (A3 m c)
      (rowOf (t.val / 5) (by omega)) (colOff (t.val % 5)) := by
  obtain ⟨e0, e1, e2, e3, e4⟩ := idx t ht
  have p (x : Fin 2 → ℕ) (y0 y1 : ℕ) (h : x = ![y0, y1]) : x 0 = y0 ∧ x 1 = y1 := by subst h; exact ⟨rfl, rfl⟩
  obtain ⟨e00, e01⟩ := p _ _ _ e0
  obtain ⟨e10, e11⟩ := p _ _ _ e1
  obtain ⟨e20, e21⟩ := p _ _ _ e2
  obtain ⟨e30, e31⟩ := p _ _ _ e3
  obtain ⟨e40, e41⟩ := p _ _ _ e4
  constructor
  · intro r k
    show V m c main_arg0 (((cfg0.win 0).blk t).view.emb (ix2 r k)) = _
    rw [V_main_arg0]
    refine congrArg (A0 m c) (funext fun a => Fin.ext ?_)
    match a with
    | ⟨0, _⟩ => show win0_0.index t (0 : Fin 2) * 512 + 1 * r.val = t.val / 5 * 512 + r.val; omega
    | ⟨1, _⟩ => show win0_0.index t (1 : Fin 2) * 3584 + 1 * k.val = k.val; omega
  · intro r l
    blk_point [iblk, V, e1]
    rfl
  · intro k j n hn
    show V m c main_arg2 (((cfg0.win 2).blk t).view.emb (ix2 k j)) = _
    rw [V_main_arg2]
    refine congrArg (A2 m c) (funext fun a => Fin.ext ?_)
    match a with
    | ⟨0, _⟩ => show win0_2.index t (0 : Fin 2) + 1 * k.val = k.val; omega
    | ⟨1, _⟩ => show win0_2.index t (1 : Fin 2) + 1 * j.val = n.val; omega
  · intro k j n hn
    show V m c main_arg2 (((cfg0.win 3).blk t).view.emb (ix2 k j)) = _
    rw [V_main_arg2]
    refine congrArg (A2 m c) (funext fun a => Fin.ext ?_)
    match a with
    | ⟨0, _⟩ => show win0_3.index t (0 : Fin 2) + 1 * k.val = k.val; omega
    | ⟨1, _⟩ => show win0_3.index t (1 : Fin 2) + 1 * j.val = n.val; omega
  · intro n
    show V m c main_arg3 (((cfg0.win 4).blk t).view.emb (ix2 0 n)) = _
    rw [V_main_arg3]
    refine congrArg (A3 m c) (funext fun a => Fin.ext ?_)
    match a with
    | ⟨0, _⟩ => show win0_4.index t (0 : Fin 2) * 1 + 1 * 0 = 0; omega
    | ⟨1, _⟩ => show win0_4.index t (1 : Fin 2) * 18944 + 1 * n.val = n.val; omega

/-! ## The running maximum -/

theorem pt_val (n : ℕ) (h : n < 160) : (pt n).val = n := by
  show min n 164 = n
  omega

/-- What a point of a tile of rows adds to the running maximum. -/
theorem stepAt_le (c : Dev nD) (u j : ℕ) (hu : u < 32) (hj : j < 5) (M : FVec Ideal S512x128 .f32) (r : Fin 512) (l : Fin 128) (z : EReal) :
    stepAt (F := Ideal) m c (pt (5 * u + j)) M (ix2 r l) ≤ z ↔ mx0 (F := Ideal) j M (ix2 r l) ≤ z
      ∧ ∀ q : Fin 9472, 2048 * j ≤ q.val → q.val < 2048 * (j + 1) → q.val % 128 = l.val
        → mag (actAt (A0 m c) (A1 m c) (A2 m c) (A3 m c) (rowOf u hu r) q) ≤ z := by
  have hv := pt_val (5 * u + j) (by omega)
  have c0 : (grid0.coords (pt (5 * u + j)) 0).val = u := by rw [coord0_eq, hv]; omega
  have c1 : (grid0.coords (pt (5 * u + j)) 1).val = j := by rw [coord1_eq, hv]; omega
  have B := blocks m c (pt (5 * u + j)) (by omega)
  have eR : rowOf ((pt (5 * u + j)).val / 5) (by omega) = rowOf u hu := by
    funext r
    exact Fin.ext (by show (pt (5 * u + j)).val / 5 * 512 + r.val = u * 512 + r.val; rw [hv]; omega)
  rw [eR, show (pt (5 * u + j)).val % 5 = (grid0.coords (pt (5 * u + j)) 1).val by rw [c1, hv]; omega] at B
  have h := stepG_le (grid0.coords (pt (5 * u + j))) (by omega) B M r l z
  rw [c1] at h
  exact h

/-- The running maximum after the point before `n`, as a point takes it up. -/
theorem mxAt_eq (c : Dev nD) (n : ℕ) : ∃ M, mxAt (F := Ideal) m c n = stepAt (F := Ideal) m c (pt n) M ∧ ∀ k, n = k + 1 → M = mxAt m c k := by
  cases n with
  | zero => exact ⟨_, rfl, fun k h => absurd h (by omega)⟩
  | succ k => exact ⟨_, rfl, fun k' h => by rw [show k' = k by omega]⟩

/-- The running maximum after point `j` of a tile of rows. -/
theorem mxAt_le (c : Dev nD) (u : ℕ) (hu : u < 32) (r : Fin 512) (l : Fin 128) (z : EReal) : ∀ j, j < 5 →
    (mxAt (F := Ideal) m c (5 * u + j) (ix2 r l) ≤ z ↔ 0 ≤ z
      ∧ ∀ q : Fin 9472, q.val < 2048 * (j + 1) → q.val % 128 = l.val
        → mag (actAt (A0 m c) (A1 m c) (A2 m c) (A3 m c) (rowOf u hu r) q) ≤ z)
  | 0, hj => by
    obtain ⟨M, e, -⟩ := mxAt_eq m c (5 * u + 0)
    rw [e, stepAt_le m c u 0 hu hj, mx0_zero, pay3_apply]
    exact and_congr_right fun _ => forall_congr' fun q => ⟨fun h a b => h (by omega) a b, fun h _ a b => h a b⟩
  | j + 1, hj => by
    obtain ⟨M, e, hM⟩ := mxAt_eq m c (5 * u + (j + 1))
    rw [e, stepAt_le m c u (j + 1) hu hj, hM (5 * u + j) (by omega), show mx0 (F := Ideal) (j + 1) (mxAt (F := Ideal) m c (5 * u + j)) = mxAt (F := Ideal) m c (5 * u + j) from if_neg (by omega),
      mxAt_le c u hu r l z j (by omega)]
    refine ⟨fun h => ⟨h.1.1, fun q a b => ?_⟩, fun h => ⟨⟨h.1, fun q a b => h.2 q (by omega) b⟩, fun q _ a b => h.2 q a b⟩⟩
    by_cases g : q.val < 2048 * (j + 1)
    · exact h.1.2 q g b
    · exact h.2 q (by omega) a b

/-- A magnitude is not negative. -/
theorem mag_nonneg (x : EReal) : 0 ≤ mag x := by
  show (0 : EReal) ≤ max x (-x)
  rcases le_total 0 x with h | h
  · exact le_max_of_le_left h
  · exact le_max_of_le_right (EReal.neg_nonneg.mpr h)

theorem cbot : Ideal.ofBits .f32 4286578688#32 = (⊥ : EReal) := by
  simp [Ideal.ofBits, Ideal.ieee]

/-- The largest of the lanes after a tile's last point is the largest magnitude of the row of activations. -/
theorem amp_eq (c : Dev nD) (u : ℕ) (hu : u < 32) (r : Fin 512) :
    Finset.fold max (Ideal.ofBits .f32 4286578688#32) (fun l : Fin 128 => (mxAt (F := Ideal) m c (5 * u + 4) (ix2 r l) : EReal)) Finset.univ
      = ampAt (A0 m c) (A1 m c) (A2 m c) (A3 m c) (rowOf u hu r) := by
  unfold ampAt
  refine eq_of_forall_ge_iff fun z => ?_
  rw [Finset.fold_max_le, Finset.fold_max_le, cbot]
  refine and_congr_right fun _ => ⟨fun h q _ => ?_, fun h l _ => ?_⟩
  · exact ((mxAt_le m c u hu r ⟨q.val % 128, by omega⟩ z 4 (by omega)).mp (h _ (Finset.mem_univ _))).2 q (by omega) rfl
  · exact (mxAt_le m c u hu r l z 4 (by omega)).mpr ⟨(mag_nonneg _).trans (h ⟨0, by decide⟩ (Finset.mem_univ _)), fun q _ _ => h q (Finset.mem_univ _)⟩

/-! ## The table of scales -/

/-- The reference's table of scales, of the argument arrays. -/
abbrev T (c : Dev nD) : FVec Ideal S4x4096 .f32 := Cert.GateUpRefIdeal.Whole.G4 (F := Ideal) (A0 m c) (A1 m c) (A2 m c) (A3 m c)

/-- The whole table of scales, after the last point. -/
theorem table_last (c : Dev nD) (t : Fin cfg0.N) (ht : t.val = 164) (X : Vec Ideal S4x4096 .f32) (hX : Table m c t X) (y : S4x4096.Idx) :
    X y = T m c y := by
  have h0 : (y 0).val < 4 := (y 0).isLt
  have h1 : (y 1).val < 4096 := (y 1).isLt
  have hu : (y 0).val * 8 + (y 1).val / 512 < 32 := by omega
  have e := hX ((y 0).val * 8 + (y 1).val / 512) y (ix2 0 ⟨(y 1).val % 512, by omega⟩) hu (by omega)
    (by show (y 0).val = ((y 0).val * 8 + (y 1).val / 512) / 8; omega)
    (by show (y 1).val = ((y 0).val * 8 + (y 1).val / 512) % 8 * 512 + (y 1).val % 512; omega)
  rw [e, sRow_apply, T, Cert.GateUpRefIdeal.Whole.G4_apply _ _ _ _ y ⟨(y 0).val * 4096 + (y 1).val, by omega⟩ rfl]
  refine congrArg scale ?_
  refine (amp_eq m c _ hu ⟨(y 1).val % 512, by omega⟩).trans ?_
  refine congrArg (ampAt (A0 m c) (A1 m c) (A2 m c) (A3 m c)) (Fin.ext ?_)
  show ((y 0).val * 8 + (y 1).val / 512) * 512 + (y 1).val % 512 = (y 0).val * 4096 + (y 1).val
  omega

/-- The kernel leaves the reference's table of scales. -/
theorem final {r} (h : RDat.FramePost (cfgs 0) (rdats m) (V m) r) (c : Dev nD) :
    r.2.mem ((c : Thread nD τ).loc main_v1_1) = T m c := by
  obtain ⟨after, hL, hA⟩ := RDat.FramePost.exists_exact h c
  have l6 : ∀ t : Fin cfg0.N, t.val = 164 → Table m c t (after 6 t) := fun t ht =>
    (dats m 0 c).toRRel_leaves (fgt := outs) (Rl := left m c) (w := 6) rfl (hL 6 t ((flush0_6 t).mpr (by omega)))
  refine (hA 6).trans ?_
  refine Dat.arrAt_eq_of_after_last _ 6 ⟨164, by decide⟩ (by decide +kernel) _ fun y => ?_
  rw [RDat.withAfter_after]
  exact table_last m c _ rfl _ (l6 _ rfl) y

end Cert.GateUpIdeal.Whole
-- ==== Proof.lean ====
module

public import proofs.«01_k».proof.Proof.Down.Value
public import proofs.«01_k».proof.Proof.Oproj.Run
public import proofs.«01_k».proof.Proof.OprojI.Value
public import proofs.«01_k».proof.Proof.GateUp.Run
public import proofs.«01_k».proof.Proof.GateUpI.Value
public import proofs.«01_k».proof.Proof.Gen.DownIdeal.Value
public import proofs.«01_k».proof.Proof.Gen.DownRefIdeal.Value
public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import Idealize.ShloMosaic.Lib.Claim
public import Idealize.ShloMosaic.Adequacy
public import Idealize.ShloMosaic.Init

@[expose] public section

noncomputable section

namespace Cert.Proof

open Idealize.ShloMosaic Idealize.SL.Sem

/-- The tiled kernel and the reference leave the same array. -/
theorem down : @Cert.algebraic_DownIdeal_DownRefIdeal Cert.DownIdeal.Gen.facts Cert.DownRefIdeal.Gen.facts := by
  pair_intro
  · run_from Cert.DownIdeal.Value.run_blocks m g
  · run_from Cert.DownRefIdeal.Value.run m' g'
    exact (Cert.DownIdeal.Down.final m c).symm

/-- The attention's output projection with its normalisation and quantiser: the tiled kernel's four arrays are the
    reference's. -/
theorem oproj : @Cert.algebraic_OprojIdeal_OprojRefIdeal Cert.OprojIdeal.Gen.facts Cert.OprojRefIdeal.Gen.facts := by
  intro m g m' g' _ hm
  refine ⟨fun c => Cert.OprojIdeal.Oproj.H m c, fun c => Cert.OprojIdeal.Oproj.C m c, fun c => Cert.OprojIdeal.Oproj.T m c,
    fun c => Cert.OprojIdeal.Oproj.L m c, ?_, ?_⟩
  · refine (θ_run Cert.OprojIdeal.defs _ _).mono (fun r h c => ?_) (Cert.OprojIdeal.Hand.run_main m g)
    obtain ⟨h0, h1, h2, h3⟩ := Cert.OprojIdeal.Oproj.final m h.1 c
    exact ⟨h0, h1, h2, h3, Cert.OprojIdeal.Hand.args_of m h.1 c⟩
  · refine (θ_run Cert.OprojRefIdeal.defs _ _).mono (fun r h c => ?_) (Cert.OprojRefIdeal.Whole.run m' g')
    obtain ⟨h0, h1, h2, h3, hargs⟩ := h c
    obtain ⟨e0, e1, e2, e3, e4, e5⟩ := hm c
    rw [e0, e1, e2, e3, e4, e5] at h0 h1 h2 h3
    exact ⟨h0, h1, h2, h3, hargs⟩

/-- The gate-and-up call: the tiled kernel's table of the activations' scales is the reference's. -/
theorem gateUp : @Cert.algebraic_GateUpIdeal_GateUpRefIdeal Cert.GateUpIdeal.Gen.facts Cert.GateUpRefIdeal.Gen.facts := by
  intro m g m' g' _ hm
  refine ⟨fun c => Cert.GateUpIdeal.Whole.T m c, ?_, ?_⟩
  · refine (θ_run Cert.GateUpIdeal.defs _ _).mono (fun r h c => ?_) (Cert.GateUpIdeal.Hand.run_main m g)
    exact ⟨Cert.GateUpIdeal.Whole.final m h.1 c, Cert.GateUpIdeal.Hand.args_of m h.1 c⟩
  · refine (θ_run Cert.GateUpRefIdeal.defs _ _).mono (fun r h c => ?_) (Cert.GateUpRefIdeal.Whole.run m' g')
    obtain ⟨h0, hargs⟩ := h c
    obtain ⟨e0, e1, e2, e3⟩ := hm c
    rw [e0, e1, e2, e3] at h0
    exact ⟨h0, hargs⟩

theorem claim : Cert.Claim := ⟨Cert.Down.Gen.facts, Cert.DownIdeal.Gen.facts, Cert.DownRefIdeal.Gen.facts,
  Cert.Oproj.Gen.facts, Cert.OprojIdeal.Gen.facts, Cert.OprojRefIdeal.Gen.facts,
  Cert.GateUp.Gen.facts, Cert.GateUpIdeal.Gen.facts, Cert.GateUpRefIdeal.Gen.facts,
  fun m ρ _ => Cert.Down.Gen.frame m ρ, fun m ρ _ => Cert.DownIdeal.Gen.frame m ρ,
  fun m ρ _ => Cert.DownRefIdeal.Gen.frame m ρ, fun m ρ _ => Cert.Oproj.Hand.frame m ρ,
  fun m ρ _ => Cert.OprojIdeal.Hand.frame m ρ, fun m ρ _ => Cert.OprojRefIdeal.Gen.frame m ρ,
  fun m ρ _ => Cert.GateUp.Hand.frame m ρ, fun m ρ _ => Cert.GateUpIdeal.Hand.frame m ρ,
  fun m ρ _ => Cert.GateUpRefIdeal.Gen.frame m ρ, trivial, down,
  IdealRules.named_const.statement Cert.OprojIdeal.κ "inv_d" .f32 0x39924925#32 _ rfl, oproj, trivial, gateUp⟩

end Cert.Proof

end
